-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S4096x4096 : Shape := ⟨2, ![4096, 4096]⟩
abbrev S1x128 : Shape := ⟨2, ![1, 128]⟩
abbrev S8x128 : Shape := ⟨2, ![8, 128]⟩
abbrev S3 : Shape := ⟨1, ![3]⟩
abbrev S8 : Shape := ⟨1, ![8]⟩
abbrev S_ : Shape := ⟨0, ![]⟩
abbrev S1 : Shape := ⟨1, ![1]⟩
abbrev S512x256 : Shape := ⟨2, ![512, 256]⟩
abbrev S1x512x256 : Shape := ⟨3, ![1, 512, 256]⟩
abbrev S1x1x1 : Shape := ⟨3, ![1, 1, 1]⟩
abbrev S256x4096 : Shape := ⟨2, ![256, 4096]⟩
abbrev S1x8x128 : Shape := ⟨3, ![1, 8, 128]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S4096x256, .bf16⟩
  | .hbm, ⟨2, _⟩ => ⟨S4096x256, .f32⟩
  | .local _ .vmem, ⟨0, _⟩ => ⟨S512x4096, .bf16⟩
  | .local _ .vmem, ⟨1, _⟩ => ⟨S4096x256, .bf16⟩
  | .local _ .vmem, ⟨2, _⟩ => ⟨S4096x256, .f32⟩
  | .local _ .vmem, ⟨3, _⟩ => ⟨S4096x4096, .bf16⟩
  | .local _ .vmem, ⟨4, _⟩ => ⟨S4096x256, .bf16⟩
  | .local _ .vmem, ⟨5, _⟩ => ⟨S1x128, .f32⟩
  | .local _ .vmem, ⟨6, _⟩ => ⟨S8x128, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c7_i32 : BitVec 32 := 7#32
  let v13 : BitVec 32 := Scalar.addi v5 c7_i32
  let c8_i32_4 : BitVec 32 := 8#32
  let v14 : BitVec 32 := Scalar.remsi v13 c8_i32_4
  let c4_i32_5 : BitVec 32 := 4#32
  let v15 : BitVec 1 := Scalar.cmpi .sge v14 c4_i32_5
  let c11_i32_6 : BitVec 32 := 11#32
  let v16 : BitVec 32 := Scalar.subi c11_i32_6 v14
  let v17 : BitVec 32 := Scalar.select v15 v16 v14
  let c1_i32_11 : BitVec 32 := 1#32
  let v26 : BitVec 32 := Scalar.muli v17 c1_i32_11
  let v27 : BitVec 32 := Scalar.addi c0_i32_12 v26
  v27.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c1_i32_0 : BitVec 32 := 1#32
  let v8 : BitVec 32 := Scalar.addi v5 c1_i32_0
  let c8_i32_1 : BitVec 32 := 8#32
  let v9 : BitVec 32 := Scalar.remsi v8 c8_i32_1
  let c4_i32_2 : BitVec 32 := 4#32
  let v10 : BitVec 1 := Scalar.cmpi .sge v9 c4_i32_2
  let c11_i32_3 : BitVec 32 := 11#32
  let v11 : BitVec 32 := Scalar.subi c11_i32_3 v9
  let v12 : BitVec 32 := Scalar.select v10 v11 v9
  let c1_i32_14 : BitVec 32 := 1#32
  let v28 : BitVec 32 := Scalar.muli v12 c1_i32_14
  let v29 : BitVec 32 := Scalar.addi c0_i32_15 v28
  v29.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v18 : BitVec 32 := Scalar.addi v5 c3_i32
  let c5_i32 : BitVec 32 := 5#32
  let v19 : BitVec 32 := Scalar.addi v5 c5_i32
  let v20 : BitVec 32 := Scalar.select v7 v18 v19
  let c8_i32_7 : BitVec 32 := 8#32
  let v21 : BitVec 32 := Scalar.remsi v20 c8_i32_7
  let c4_i32_8 : BitVec 32 := 4#32
  let v22 : BitVec 1 := Scalar.cmpi .sge v21 c4_i32_8
  let c11_i32_9 : BitVec 32 := 11#32
  let v23 : BitVec 32 := Scalar.subi c11_i32_9 v21
  let v24 : BitVec 32 := Scalar.select v22 v23 v21
  let c1_i32_17 : BitVec 32 := 1#32
  let v30 : BitVec 32 := Scalar.muli v24 c1_i32_17
  let v31 : BitVec 32 := Scalar.addi c0_i32_18 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v32 : BitVec 32 := Scalar.muli v2 c512_i32
  let v35 : Index := Scalar.indexCast v32
  let c0_21 : Index := 0#32
  ![v35.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v32 : BitVec 32 := Scalar.muli v2 c512_i32
  let c0_i32_26 : BitVec 32 := 0#32
  ![v32.toNat, 0]
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c1_i32_0 : BitVec 32 := 1#32
  let v8 : BitVec 32 := Scalar.addi v5 c1_i32_0
  let c8_i32_1 : BitVec 32 := 8#32
  let v9 : BitVec 32 := Scalar.remsi v8 c8_i32_1
  let c4_i32_2 : BitVec 32 := 4#32
  let v10 : BitVec 1 := Scalar.cmpi .sge v9 c4_i32_2
  let c11_i32_3 : BitVec 32 := 11#32
  let v11 : BitVec 32 := Scalar.subi c11_i32_3 v9
  let v12 : BitVec 32 := Scalar.select v10 v11 v9
  let c1_i32_24 : BitVec 32 := 1#32
  let v39 : BitVec 32 := Scalar.muli v12 c1_i32_24
  let v40 : BitVec 32 := Scalar.addi c0_i32_25 v39
  v40.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c7_i32 : BitVec 32 := 7#32
  let v13 : BitVec 32 := Scalar.addi v5 c7_i32
  let c8_i32_4 : BitVec 32 := 8#32
  let v14 : BitVec 32 := Scalar.remsi v13 c8_i32_4
  let c4_i32_5 : BitVec 32 := 4#32
  let v15 : BitVec 1 := Scalar.cmpi .sge v14 c4_i32_5
  let c11_i32_6 : BitVec 32 := 11#32
  let v16 : BitVec 32 := Scalar.subi c11_i32_6 v14
  let v17 : BitVec 32 := Scalar.select v15 v16 v14
  let c1_i32_30 : BitVec 32 := 1#32
  let v47 : BitVec 32 := Scalar.muli v17 c1_i32_30
  let v48 : BitVec 32 := Scalar.addi c0_i32_31 v47
  v48.toNat
def k0_dev6 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v18 : BitVec 32 := Scalar.addi v5 c3_i32
  let c5_i32 : BitVec 32 := 5#32
  let v19 : BitVec 32 := Scalar.addi v5 c5_i32
  let v20 : BitVec 32 := Scalar.select v7 v18 v19
  let c8_i32_7 : BitVec 32 := 8#32
  let v21 : BitVec 32 := Scalar.remsi v20 c8_i32_7
  let c4_i32_8 : BitVec 32 := 4#32
  let v22 : BitVec 1 := Scalar.cmpi .sge v21 c4_i32_8
  let c11_i32_9 : BitVec 32 := 11#32
  let v23 : BitVec 32 := Scalar.subi c11_i32_9 v21
  let v24 : BitVec 32 := Scalar.select v22 v23 v21
  let c1_i32_36 : BitVec 32 := 1#32
  let v55 : BitVec 32 := Scalar.muli v24 c1_i32_36
  let v56 : BitVec 32 := Scalar.addi c0_i32_37 v55
  v56.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v32 : BitVec 32 := Scalar.muli v2 c512_i32
  let v72 : Index := Scalar.indexCast v32
  let c0_47 : Index := 0#32
  ![v72.toNat, 0]
def k0_off4 (d0 : Dev nD) (c_m1_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let v80 : BitVec 32 := Scalar.addi v5 c_m1_i32
  let c8_i32_50 : BitVec 32 := 8#32
  let v81 : BitVec 32 := Scalar.addi v80 c8_i32_50
  let c8_i32_51 : BitVec 32 := 8#32
  let v82 : BitVec 32 := Scalar.remsi v81 c8_i32_51
  let c4_i32_52 : BitVec 32 := 4#32
  let v83 : BitVec 1 := Scalar.cmpi .sge v82 c4_i32_52
  let c11_i32_53 : BitVec 32 := 11#32
  let v84 : BitVec 32 := Scalar.subi c11_i32_53 v82
  let v85 : BitVec 32 := Scalar.select v83 v84 v82
  let c512_i32_54 : BitVec 32 := 512#32
  let v86 : BitVec 32 := Scalar.muli v85 c512_i32_54
  let c0_i32_59 : BitVec 32 := 0#32
  ![v86.toNat, 0]
def k0_off4_at (r : Fin 5) : BitVec 32 :=
  if r.val < 2 then
    if r.val < 1 then
      4294967295#32
    else
      1#32
  else
    if r.val < 3 then
      4294967294#32
    else
      if r.val < 4 then
        2#32
      else
        4#32
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c1_i32_0 : BitVec 32 := 1#32
  let v8 : BitVec 32 := Scalar.addi v5 c1_i32_0
  let c8_i32_1 : BitVec 32 := 8#32
  let v9 : BitVec 32 := Scalar.remsi v8 c8_i32_1
  let c4_i32_2 : BitVec 32 := 4#32
  let v10 : BitVec 1 := Scalar.cmpi .sge v9 c4_i32_2
  let c11_i32_3 : BitVec 32 := 11#32
  let v11 : BitVec 32 := Scalar.subi c11_i32_3 v9
  let v12 : BitVec 32 := Scalar.select v10 v11 v9
  let c1_i32_69 : BitVec 32 := 1#32
  let v100 : BitVec 32 := Scalar.muli v12 c1_i32_69
  let v101 : BitVec 32 := Scalar.addi c0_i32_70 v100
  v101.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let v108 : BitVec 32 := Scalar.extui v7
  let c0_i32_73 : BitVec 32 := 0#32
  let v109 : BitVec 1 := Scalar.cmpi .ne v108 c0_i32_73
  v109

def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c_m1_i32_370 : BitVec 32 := 4294967295#32
  let v514 : BitVec 32 := Scalar.addi v5 c_m1_i32_370
  let c8_i32_371 : BitVec 32 := 8#32
  let v515 : BitVec 32 := Scalar.addi v514 c8_i32_371
  let c8_i32_372 : BitVec 32 := 8#32
  let v516 : BitVec 32 := Scalar.remsi v515 c8_i32_372
  let c4_i32_373 : BitVec 32 := 4#32
  let v517 : BitVec 1 := Scalar.cmpi .sge v516 c4_i32_373
  let c11_i32_374 : BitVec 32 := 11#32
  let v518 : BitVec 32 := Scalar.subi c11_i32_374 v516
  let v519 : BitVec 32 := Scalar.select v517 v518 v516
  let c512_i32_375 : BitVec 32 := 512#32
  let v520 : BitVec 32 := Scalar.muli v519 c512_i32_375
  let c0_i32_380 : BitVec 32 := 0#32
  ![v520.toNat, 0]
def k0_dev8 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v18 : BitVec 32 := Scalar.addi v5 c3_i32
  let c5_i32 : BitVec 32 := 5#32
  let v19 : BitVec 32 := Scalar.addi v5 c5_i32
  let v20 : BitVec 32 := Scalar.select v7 v18 v19
  let c8_i32_7 : BitVec 32 := 8#32
  let v21 : BitVec 32 := Scalar.remsi v20 c8_i32_7
  let c4_i32_8 : BitVec 32 := 4#32
  let v22 : BitVec 1 := Scalar.cmpi .sge v21 c4_i32_8
  let c11_i32_9 : BitVec 32 := 11#32
  let v23 : BitVec 32 := Scalar.subi c11_i32_9 v21
  let v24 : BitVec 32 := Scalar.select v22 v23 v21
  let c1_i32_378 : BitVec 32 := 1#32
  let v521 : BitVec 32 := Scalar.muli v24 c1_i32_378
  let v522 : BitVec 32 := Scalar.addi c0_i32_379 v521
  v522.toNat
def k0_dev9 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c7_i32 : BitVec 32 := 7#32
  let v13 : BitVec 32 := Scalar.addi v5 c7_i32
  let c8_i32_4 : BitVec 32 := 8#32
  let v14 : BitVec 32 := Scalar.remsi v13 c8_i32_4
  let c4_i32_5 : BitVec 32 := 4#32
  let v15 : BitVec 1 := Scalar.cmpi .sge v14 c4_i32_5
  let c11_i32_6 : BitVec 32 := 11#32
  let v16 : BitVec 32 := Scalar.subi c11_i32_6 v14
  let v17 : BitVec 32 := Scalar.select v15 v16 v14
  let c1_i32_94 : BitVec 32 := 1#32
  let v130 : BitVec 32 := Scalar.muli v17 c1_i32_94
  let v131 : BitVec 32 := Scalar.addi c0_i32_95 v130
  v131.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let true_98 : BitVec 1 := 1#1
  let v138 : BitVec 1 := Scalar.xori v7 true_98
  let v139 : BitVec 32 := Scalar.extui v138
  let c0_i32_99 : BitVec 32 := 0#32
  let v140 : BitVec 1 := Scalar.cmpi .ne v139 c0_i32_99
  v140

def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c1_i32_370 : BitVec 32 := 1#32
  let v514 : BitVec 32 := Scalar.addi v5 c1_i32_370
  let c8_i32_371 : BitVec 32 := 8#32
  let v515 : BitVec 32 := Scalar.addi v514 c8_i32_371
  let c8_i32_372 : BitVec 32 := 8#32
  let v516 : BitVec 32 := Scalar.remsi v515 c8_i32_372
  let c4_i32_373 : BitVec 32 := 4#32
  let v517 : BitVec 1 := Scalar.cmpi .sge v516 c4_i32_373
  let c11_i32_374 : BitVec 32 := 11#32
  let v518 : BitVec 32 := Scalar.subi c11_i32_374 v516
  let v519 : BitVec 32 := Scalar.select v517 v518 v516
  let c512_i32_375 : BitVec 32 := 512#32
  let v520 : BitVec 32 := Scalar.muli v519 c512_i32_375
  let c0_i32_380 : BitVec 32 := 0#32
  ![v520.toNat, 0]
def k0_dev10 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v18 : BitVec 32 := Scalar.addi v5 c3_i32
  let c5_i32 : BitVec 32 := 5#32
  let v19 : BitVec 32 := Scalar.addi v5 c5_i32
  let v20 : BitVec 32 := Scalar.select v7 v18 v19
  let c8_i32_7 : BitVec 32 := 8#32
  let v21 : BitVec 32 := Scalar.remsi v20 c8_i32_7
  let c4_i32_8 : BitVec 32 := 4#32
  let v22 : BitVec 1 := Scalar.cmpi .sge v21 c4_i32_8
  let c11_i32_9 : BitVec 32 := 11#32
  let v23 : BitVec 32 := Scalar.subi c11_i32_9 v21
  let v24 : BitVec 32 := Scalar.select v22 v23 v21
  let c1_i32_378 : BitVec 32 := 1#32
  let v521 : BitVec 32 := Scalar.muli v24 c1_i32_378
  let v522 : BitVec 32 := Scalar.addi c0_i32_379 v521
  v522.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v18 : BitVec 32 := Scalar.addi v5 c3_i32
  let c5_i32 : BitVec 32 := 5#32
  let v19 : BitVec 32 := Scalar.addi v5 c5_i32
  let v20 : BitVec 32 := Scalar.select v7 v18 v19
  let c8_i32_7 : BitVec 32 := 8#32
  let v21 : BitVec 32 := Scalar.remsi v20 c8_i32_7
  let c4_i32_100 : BitVec 32 := 4#32
  let v141 : BitVec 1 := Scalar.cmpi .sge v21 c4_i32_100
  let c11_i32_101 : BitVec 32 := 11#32
  let v142 : BitVec 32 := Scalar.subi c11_i32_101 v21
  let v143 : BitVec 32 := Scalar.select v141 v142 v21
  let c512_i32_102 : BitVec 32 := 512#32
  let v144 : BitVec 32 := Scalar.muli v143 c512_i32_102
  let c0_i32_107 : BitVec 32 := 0#32
  ![v144.toNat, 0]
def k0_off8 (d0 : Dev nD) (c_m1_i32_109 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let v151 : BitVec 32 := Scalar.addi v5 c_m1_i32_109
  let c8_i32_110 : BitVec 32 := 8#32
  let v152 : BitVec 32 := Scalar.addi v151 c8_i32_110
  let c8_i32_111 : BitVec 32 := 8#32
  let v153 : BitVec 32 := Scalar.remsi v152 c8_i32_111
  let c4_i32_112 : BitVec 32 := 4#32
  let v154 : BitVec 1 := Scalar.cmpi .sge v153 c4_i32_112
  let c11_i32_113 : BitVec 32 := 11#32
  let v155 : BitVec 32 := Scalar.subi c11_i32_113 v153
  let v156 : BitVec 32 := Scalar.select v154 v155 v153
  let c512_i32_114 : BitVec 32 := 512#32
  let v157 : BitVec 32 := Scalar.muli v156 c512_i32_114
  let v158 : Index := Scalar.indexCast v157
  let c0_115 : Index := 0#32
  ![v158.toNat, 0]
def k0_off8_at (r : Fin 5) : BitVec 32 :=
  if r.val < 2 then
    if r.val < 1 then
      4294967295#32
    else
      1#32
  else
    if r.val < 3 then
      4294967294#32
    else
      if r.val < 4 then
        2#32
      else
        4#32
def k0_off9 (d0 : Dev nD) (c_m1_i32_116 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let v160 : BitVec 32 := Scalar.addi v5 c_m1_i32_116
  let c8_i32_117 : BitVec 32 := 8#32
  let v161 : BitVec 32 := Scalar.addi v160 c8_i32_117
  let c8_i32_118 : BitVec 32 := 8#32
  let v162 : BitVec 32 := Scalar.remsi v161 c8_i32_118
  let c4_i32_119 : BitVec 32 := 4#32
  let v163 : BitVec 1 := Scalar.cmpi .sge v162 c4_i32_119
  let c11_i32_120 : BitVec 32 := 11#32
  let v164 : BitVec 32 := Scalar.subi c11_i32_120 v162
  let v165 : BitVec 32 := Scalar.select v163 v164 v162
  let c512_i32_121 : BitVec 32 := 512#32
  let v166 : BitVec 32 := Scalar.muli v165 c512_i32_121
  let v169 : Index := Scalar.indexCast v166
  let c0_125 : Index := 0#32
  ![v169.toNat, 0]
def k0_off9_at (r : Fin 5) : BitVec 32 :=
  if r.val < 2 then
    if r.val < 1 then
      4294967295#32
    else
      1#32
  else
    if r.val < 3 then
      4294967294#32
    else
      if r.val < 4 then
        2#32
      else
        4#32
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v18 : BitVec 32 := Scalar.addi v5 c3_i32
  let c5_i32 : BitVec 32 := 5#32
  let v19 : BitVec 32 := Scalar.addi v5 c5_i32
  let v20 : BitVec 32 := Scalar.select v7 v18 v19
  let c8_i32_7 : BitVec 32 := 8#32
  let v21 : BitVec 32 := Scalar.remsi v20 c8_i32_7
  let c4_i32_100 : BitVec 32 := 4#32
  let v141 : BitVec 1 := Scalar.cmpi .sge v21 c4_i32_100
  let c11_i32_101 : BitVec 32 := 11#32
  let v142 : BitVec 32 := Scalar.subi c11_i32_101 v21
  let v143 : BitVec 32 := Scalar.select v141 v142 v21
  let c512_i32_102 : BitVec 32 := 512#32
  let v144 : BitVec 32 := Scalar.muli v143 c512_i32_102
  let v203 : Index := Scalar.indexCast v144
  let c0_145 : Index := 0#32
  ![v203.toNat, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v18 : BitVec 32 := Scalar.addi v5 c3_i32
  let c5_i32 : BitVec 32 := 5#32
  let v19 : BitVec 32 := Scalar.addi v5 c5_i32
  let v20 : BitVec 32 := Scalar.select v7 v18 v19
  let c8_i32_7 : BitVec 32 := 8#32
  let v21 : BitVec 32 := Scalar.remsi v20 c8_i32_7
  let c4_i32_100 : BitVec 32 := 4#32
  let v141 : BitVec 1 := Scalar.cmpi .sge v21 c4_i32_100
  let c11_i32_101 : BitVec 32 := 11#32
  let v142 : BitVec 32 := Scalar.subi c11_i32_101 v21
  let v143 : BitVec 32 := Scalar.select v141 v142 v21
  let c512_i32_102 : BitVec 32 := 512#32
  let v144 : BitVec 32 := Scalar.muli v143 c512_i32_102
  let v207 : Index := Scalar.indexCast v144
  let c0_149 : Index := 0#32
  ![v207.toNat, 0]
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let v228 : BitVec 32 := Scalar.extui v7
  let c0_i32_162 : BitVec 32 := 0#32
  let v229 : BitVec 1 := Scalar.cmpi .ne v228 c0_i32_162
  v229

def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c_m2_i32_370 : BitVec 32 := 4294967294#32
  let v514 : BitVec 32 := Scalar.addi v5 c_m2_i32_370
  let c8_i32_371 : BitVec 32 := 8#32
  let v515 : BitVec 32 := Scalar.addi v514 c8_i32_371
  let c8_i32_372 : BitVec 32 := 8#32
  let v516 : BitVec 32 := Scalar.remsi v515 c8_i32_372
  let c4_i32_373 : BitVec 32 := 4#32
  let v517 : BitVec 1 := Scalar.cmpi .sge v516 c4_i32_373
  let c11_i32_374 : BitVec 32 := 11#32
  let v518 : BitVec 32 := Scalar.subi c11_i32_374 v516
  let v519 : BitVec 32 := Scalar.select v517 v518 v516
  let c512_i32_375 : BitVec 32 := 512#32
  let v520 : BitVec 32 := Scalar.muli v519 c512_i32_375
  let c0_i32_380 : BitVec 32 := 0#32
  ![v520.toNat, 0]
def k0_dev11 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v18 : BitVec 32 := Scalar.addi v5 c3_i32
  let c5_i32 : BitVec 32 := 5#32
  let v19 : BitVec 32 := Scalar.addi v5 c5_i32
  let v20 : BitVec 32 := Scalar.select v7 v18 v19
  let c8_i32_7 : BitVec 32 := 8#32
  let v21 : BitVec 32 := Scalar.remsi v20 c8_i32_7
  let c4_i32_8 : BitVec 32 := 4#32
  let v22 : BitVec 1 := Scalar.cmpi .sge v21 c4_i32_8
  let c11_i32_9 : BitVec 32 := 11#32
  let v23 : BitVec 32 := Scalar.subi c11_i32_9 v21
  let v24 : BitVec 32 := Scalar.select v22 v23 v21
  let c1_i32_378 : BitVec 32 := 1#32
  let v521 : BitVec 32 := Scalar.muli v24 c1_i32_378
  let v522 : BitVec 32 := Scalar.addi c0_i32_379 v521
  v522.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let true_163 : BitVec 1 := 1#1
  let v230 : BitVec 1 := Scalar.xori v7 true_163
  let v231 : BitVec 32 := Scalar.extui v230
  let c0_i32_164 : BitVec 32 := 0#32
  let v232 : BitVec 1 := Scalar.cmpi .ne v231 c0_i32_164
  v232

def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c_m2_i32_370 : BitVec 32 := 4294967294#32
  let v514 : BitVec 32 := Scalar.addi v5 c_m2_i32_370
  let c8_i32_371 : BitVec 32 := 8#32
  let v515 : BitVec 32 := Scalar.addi v514 c8_i32_371
  let c8_i32_372 : BitVec 32 := 8#32
  let v516 : BitVec 32 := Scalar.remsi v515 c8_i32_372
  let c4_i32_373 : BitVec 32 := 4#32
  let v517 : BitVec 1 := Scalar.cmpi .sge v516 c4_i32_373
  let c11_i32_374 : BitVec 32 := 11#32
  let v518 : BitVec 32 := Scalar.subi c11_i32_374 v516
  let v519 : BitVec 32 := Scalar.select v517 v518 v516
  let c512_i32_375 : BitVec 32 := 512#32
  let v520 : BitVec 32 := Scalar.muli v519 c512_i32_375
  let c0_i32_380 : BitVec 32 := 0#32
  ![v520.toNat, 0]
def k0_dev12 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c1_i32_0 : BitVec 32 := 1#32
  let v8 : BitVec 32 := Scalar.addi v5 c1_i32_0
  let c8_i32_1 : BitVec 32 := 8#32
  let v9 : BitVec 32 := Scalar.remsi v8 c8_i32_1
  let c4_i32_2 : BitVec 32 := 4#32
  let v10 : BitVec 1 := Scalar.cmpi .sge v9 c4_i32_2
  let c11_i32_3 : BitVec 32 := 11#32
  let v11 : BitVec 32 := Scalar.subi c11_i32_3 v9
  let v12 : BitVec 32 := Scalar.select v10 v11 v9
  let c1_i32_378 : BitVec 32 := 1#32
  let v521 : BitVec 32 := Scalar.muli v12 c1_i32_378
  let v522 : BitVec 32 := Scalar.addi c0_i32_379 v521
  v522.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let v246 : BitVec 32 := Scalar.extui v7
  let c0_i32_177 : BitVec 32 := 0#32
  let v247 : BitVec 1 := Scalar.cmpi .ne v246 c0_i32_177
  v247

def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32_370 : BitVec 32 := 2#32
  let v514 : BitVec 32 := Scalar.addi v5 c2_i32_370
  let c8_i32_371 : BitVec 32 := 8#32
  let v515 : BitVec 32 := Scalar.addi v514 c8_i32_371
  let c8_i32_372 : BitVec 32 := 8#32
  let v516 : BitVec 32 := Scalar.remsi v515 c8_i32_372
  let c4_i32_373 : BitVec 32 := 4#32
  let v517 : BitVec 1 := Scalar.cmpi .sge v516 c4_i32_373
  let c11_i32_374 : BitVec 32 := 11#32
  let v518 : BitVec 32 := Scalar.subi c11_i32_374 v516
  let v519 : BitVec 32 := Scalar.select v517 v518 v516
  let c512_i32_375 : BitVec 32 := 512#32
  let v520 : BitVec 32 := Scalar.muli v519 c512_i32_375
  let c256_i32 : BitVec 32 := 256#32
  let v521 : BitVec 32 := Scalar.addi v520 c256_i32
  let c0_i32_380 : BitVec 32 := 0#32
  ![v521.toNat, 0]
def k0_dev13 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c7_i32 : BitVec 32 := 7#32
  let v13 : BitVec 32 := Scalar.addi v5 c7_i32
  let c8_i32_4 : BitVec 32 := 8#32
  let v14 : BitVec 32 := Scalar.remsi v13 c8_i32_4
  let c4_i32_5 : BitVec 32 := 4#32
  let v15 : BitVec 1 := Scalar.cmpi .sge v14 c4_i32_5
  let c11_i32_6 : BitVec 32 := 11#32
  let v16 : BitVec 32 := Scalar.subi c11_i32_6 v14
  let v17 : BitVec 32 := Scalar.select v15 v16 v14
  let c1_i32_378 : BitVec 32 := 1#32
  let v522 : BitVec 32 := Scalar.muli v17 c1_i32_378
  let v523 : BitVec 32 := Scalar.addi c0_i32_379 v522
  v523.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let true_178 : BitVec 1 := 1#1
  let v248 : BitVec 1 := Scalar.xori v7 true_178
  let v249 : BitVec 32 := Scalar.extui v248
  let c0_i32_179 : BitVec 32 := 0#32
  let v250 : BitVec 1 := Scalar.cmpi .ne v249 c0_i32_179
  v250

def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32_370 : BitVec 32 := 2#32
  let v514 : BitVec 32 := Scalar.addi v5 c2_i32_370
  let c8_i32_371 : BitVec 32 := 8#32
  let v515 : BitVec 32 := Scalar.addi v514 c8_i32_371
  let c8_i32_372 : BitVec 32 := 8#32
  let v516 : BitVec 32 := Scalar.remsi v515 c8_i32_372
  let c4_i32_373 : BitVec 32 := 4#32
  let v517 : BitVec 1 := Scalar.cmpi .sge v516 c4_i32_373
  let c11_i32_374 : BitVec 32 := 11#32
  let v518 : BitVec 32 := Scalar.subi c11_i32_374 v516
  let v519 : BitVec 32 := Scalar.select v517 v518 v516
  let c512_i32_375 : BitVec 32 := 512#32
  let v520 : BitVec 32 := Scalar.muli v519 c512_i32_375
  let c256_i32 : BitVec 32 := 256#32
  let v521 : BitVec 32 := Scalar.addi v520 c256_i32
  let c0_i32_380 : BitVec 32 := 0#32
  ![v521.toNat, 0]
def k0_dev14 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let c3_i32 : BitVec 32 := 3#32
  let v18 : BitVec 32 := Scalar.addi v5 c3_i32
  let c5_i32 : BitVec 32 := 5#32
  let v19 : BitVec 32 := Scalar.addi v5 c5_i32
  let v20 : BitVec 32 := Scalar.select v7 v18 v19
  let c8_i32_7 : BitVec 32 := 8#32
  let v21 : BitVec 32 := Scalar.remsi v20 c8_i32_7
  let c4_i32_8 : BitVec 32 := 4#32
  let v22 : BitVec 1 := Scalar.cmpi .sge v21 c4_i32_8
  let c11_i32_9 : BitVec 32 := 11#32
  let v23 : BitVec 32 := Scalar.subi c11_i32_9 v21
  let v24 : BitVec 32 := Scalar.select v22 v23 v21
  let c1_i32_378 : BitVec 32 := 1#32
  let v522 : BitVec 32 := Scalar.muli v24 c1_i32_378
  let v523 : BitVec 32 := Scalar.addi c0_i32_379 v522
  v523.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let v357 : BitVec 32 := Scalar.extui v7
  let c0_i32_258 : BitVec 32 := 0#32
  let v358 : BitVec 1 := Scalar.cmpi .ne v357 c0_i32_258
  v358

def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let c5_i32_246 : BitVec 32 := 5#32
  let v342 : BitVec 32 := Scalar.addi v5 c5_i32_246
  let c8_i32_247 : BitVec 32 := 8#32
  let v343 : BitVec 32 := Scalar.addi v342 c8_i32_247
  let c8_i32_248 : BitVec 32 := 8#32
  let v344 : BitVec 32 := Scalar.remsi v343 c8_i32_248
  let c4_i32_249 : BitVec 32 := 4#32
  let v345 : BitVec 1 := Scalar.cmpi .sge v344 c4_i32_249
  let c11_i32_250 : BitVec 32 := 11#32
  let v346 : BitVec 32 := Scalar.subi c11_i32_250 v344
  let v347 : BitVec 32 := Scalar.select v345 v346 v344
  let c512_i32_251 : BitVec 32 := 512#32
  let v348 : BitVec 32 := Scalar.muli v347 c512_i32_251
  let c3_i32_252 : BitVec 32 := 3#32
  let v349 : BitVec 32 := Scalar.addi v5 c3_i32_252
  let c8_i32_253 : BitVec 32 := 8#32
  let v350 : BitVec 32 := Scalar.addi v349 c8_i32_253
  let c8_i32_254 : BitVec 32 := 8#32
  let v351 : BitVec 32 := Scalar.remsi v350 c8_i32_254
  let c4_i32_255 : BitVec 32 := 4#32
  let v352 : BitVec 1 := Scalar.cmpi .sge v351 c4_i32_255
  let c11_i32_256 : BitVec 32 := 11#32
  let v353 : BitVec 32 := Scalar.subi c11_i32_256 v351
  let v354 : BitVec 32 := Scalar.select v352 v353 v351
  let c512_i32_257 : BitVec 32 := 512#32
  let v355 : BitVec 32 := Scalar.muli v354 c512_i32_257
  let v356 : BitVec 32 := Scalar.select v7 v348 v355
  let c0_i32_374 : BitVec 32 := 0#32
  ![v356.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let c5_i32_246 : BitVec 32 := 5#32
  let v342 : BitVec 32 := Scalar.addi v5 c5_i32_246
  let c8_i32_247 : BitVec 32 := 8#32
  let v343 : BitVec 32 := Scalar.addi v342 c8_i32_247
  let c8_i32_248 : BitVec 32 := 8#32
  let v344 : BitVec 32 := Scalar.remsi v343 c8_i32_248
  let c4_i32_249 : BitVec 32 := 4#32
  let v345 : BitVec 1 := Scalar.cmpi .sge v344 c4_i32_249
  let c11_i32_250 : BitVec 32 := 11#32
  let v346 : BitVec 32 := Scalar.subi c11_i32_250 v344
  let v347 : BitVec 32 := Scalar.select v345 v346 v344
  let c512_i32_251 : BitVec 32 := 512#32
  let v348 : BitVec 32 := Scalar.muli v347 c512_i32_251
  let c3_i32_252 : BitVec 32 := 3#32
  let v349 : BitVec 32 := Scalar.addi v5 c3_i32_252
  let c8_i32_253 : BitVec 32 := 8#32
  let v350 : BitVec 32 := Scalar.addi v349 c8_i32_253
  let c8_i32_254 : BitVec 32 := 8#32
  let v351 : BitVec 32 := Scalar.remsi v350 c8_i32_254
  let c4_i32_255 : BitVec 32 := 4#32
  let v352 : BitVec 1 := Scalar.cmpi .sge v351 c4_i32_255
  let c11_i32_256 : BitVec 32 := 11#32
  let v353 : BitVec 32 := Scalar.subi c11_i32_256 v351
  let v354 : BitVec 32 := Scalar.select v352 v353 v351
  let c512_i32_257 : BitVec 32 := 512#32
  let v355 : BitVec 32 := Scalar.muli v354 c512_i32_257
  let v356 : BitVec 32 := Scalar.select v7 v348 v355
  let c256_i32 : BitVec 32 := 256#32
  let v520 : BitVec 32 := Scalar.addi v356 c256_i32
  let c0_i32_380 : BitVec 32 := 0#32
  ![v520.toNat, 0]
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let true_259 : BitVec 1 := 1#1
  let v359 : BitVec 1 := Scalar.xori v7 true_259
  let v360 : BitVec 32 := Scalar.extui v359
  let c0_i32_260 : BitVec 32 := 0#32
  let v361 : BitVec 1 := Scalar.cmpi .ne v360 c0_i32_260
  v361

def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let c5_i32_246 : BitVec 32 := 5#32
  let v342 : BitVec 32 := Scalar.addi v5 c5_i32_246
  let c8_i32_247 : BitVec 32 := 8#32
  let v343 : BitVec 32 := Scalar.addi v342 c8_i32_247
  let c8_i32_248 : BitVec 32 := 8#32
  let v344 : BitVec 32 := Scalar.remsi v343 c8_i32_248
  let c4_i32_249 : BitVec 32 := 4#32
  let v345 : BitVec 1 := Scalar.cmpi .sge v344 c4_i32_249
  let c11_i32_250 : BitVec 32 := 11#32
  let v346 : BitVec 32 := Scalar.subi c11_i32_250 v344
  let v347 : BitVec 32 := Scalar.select v345 v346 v344
  let c512_i32_251 : BitVec 32 := 512#32
  let v348 : BitVec 32 := Scalar.muli v347 c512_i32_251
  let c3_i32_252 : BitVec 32 := 3#32
  let v349 : BitVec 32 := Scalar.addi v5 c3_i32_252
  let c8_i32_253 : BitVec 32 := 8#32
  let v350 : BitVec 32 := Scalar.addi v349 c8_i32_253
  let c8_i32_254 : BitVec 32 := 8#32
  let v351 : BitVec 32 := Scalar.remsi v350 c8_i32_254
  let c4_i32_255 : BitVec 32 := 4#32
  let v352 : BitVec 1 := Scalar.cmpi .sge v351 c4_i32_255
  let c11_i32_256 : BitVec 32 := 11#32
  let v353 : BitVec 32 := Scalar.subi c11_i32_256 v351
  let v354 : BitVec 32 := Scalar.select v352 v353 v351
  let c512_i32_257 : BitVec 32 := 512#32
  let v355 : BitVec 32 := Scalar.muli v354 c512_i32_257
  let v356 : BitVec 32 := Scalar.select v7 v348 v355
  let c0_i32_374 : BitVec 32 := 0#32
  ![v356.toNat, 0]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let c5_i32_246 : BitVec 32 := 5#32
  let v342 : BitVec 32 := Scalar.addi v5 c5_i32_246
  let c8_i32_247 : BitVec 32 := 8#32
  let v343 : BitVec 32 := Scalar.addi v342 c8_i32_247
  let c8_i32_248 : BitVec 32 := 8#32
  let v344 : BitVec 32 := Scalar.remsi v343 c8_i32_248
  let c4_i32_249 : BitVec 32 := 4#32
  let v345 : BitVec 1 := Scalar.cmpi .sge v344 c4_i32_249
  let c11_i32_250 : BitVec 32 := 11#32
  let v346 : BitVec 32 := Scalar.subi c11_i32_250 v344
  let v347 : BitVec 32 := Scalar.select v345 v346 v344
  let c512_i32_251 : BitVec 32 := 512#32
  let v348 : BitVec 32 := Scalar.muli v347 c512_i32_251
  let c3_i32_252 : BitVec 32 := 3#32
  let v349 : BitVec 32 := Scalar.addi v5 c3_i32_252
  let c8_i32_253 : BitVec 32 := 8#32
  let v350 : BitVec 32 := Scalar.addi v349 c8_i32_253
  let c8_i32_254 : BitVec 32 := 8#32
  let v351 : BitVec 32 := Scalar.remsi v350 c8_i32_254
  let c4_i32_255 : BitVec 32 := 4#32
  let v352 : BitVec 1 := Scalar.cmpi .sge v351 c4_i32_255
  let c11_i32_256 : BitVec 32 := 11#32
  let v353 : BitVec 32 := Scalar.subi c11_i32_256 v351
  let v354 : BitVec 32 := Scalar.select v352 v353 v351
  let c512_i32_257 : BitVec 32 := 512#32
  let v355 : BitVec 32 := Scalar.muli v354 c512_i32_257
  let v356 : BitVec 32 := Scalar.select v7 v348 v355
  let c256_i32 : BitVec 32 := 256#32
  let v520 : BitVec 32 := Scalar.addi v356 c256_i32
  let c0_i32_380 : BitVec 32 := 0#32
  ![v520.toNat, 0]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let c5_i32_246 : BitVec 32 := 5#32
  let v342 : BitVec 32 := Scalar.addi v5 c5_i32_246
  let c8_i32_247 : BitVec 32 := 8#32
  let v343 : BitVec 32 := Scalar.addi v342 c8_i32_247
  let c8_i32_248 : BitVec 32 := 8#32
  let v344 : BitVec 32 := Scalar.remsi v343 c8_i32_248
  let c4_i32_249 : BitVec 32 := 4#32
  let v345 : BitVec 1 := Scalar.cmpi .sge v344 c4_i32_249
  let c11_i32_250 : BitVec 32 := 11#32
  let v346 : BitVec 32 := Scalar.subi c11_i32_250 v344
  let v347 : BitVec 32 := Scalar.select v345 v346 v344
  let c512_i32_251 : BitVec 32 := 512#32
  let v348 : BitVec 32 := Scalar.muli v347 c512_i32_251
  let c3_i32_252 : BitVec 32 := 3#32
  let v349 : BitVec 32 := Scalar.addi v5 c3_i32_252
  let c8_i32_253 : BitVec 32 := 8#32
  let v350 : BitVec 32 := Scalar.addi v349 c8_i32_253
  let c8_i32_254 : BitVec 32 := 8#32
  let v351 : BitVec 32 := Scalar.remsi v350 c8_i32_254
  let c4_i32_255 : BitVec 32 := 4#32
  let v352 : BitVec 1 := Scalar.cmpi .sge v351 c4_i32_255
  let c11_i32_256 : BitVec 32 := 11#32
  let v353 : BitVec 32 := Scalar.subi c11_i32_256 v351
  let v354 : BitVec 32 := Scalar.select v352 v353 v351
  let c512_i32_257 : BitVec 32 := 512#32
  let v355 : BitVec 32 := Scalar.muli v354 c512_i32_257
  let v356 : BitVec 32 := Scalar.select v7 v348 v355
  let v362 : Index := Scalar.indexCast v356
  let c0_261 : Index := 0#32
  ![v362.toNat, 0]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let c5_i32_246 : BitVec 32 := 5#32
  let v342 : BitVec 32 := Scalar.addi v5 c5_i32_246
  let c8_i32_247 : BitVec 32 := 8#32
  let v343 : BitVec 32 := Scalar.addi v342 c8_i32_247
  let c8_i32_248 : BitVec 32 := 8#32
  let v344 : BitVec 32 := Scalar.remsi v343 c8_i32_248
  let c4_i32_249 : BitVec 32 := 4#32
  let v345 : BitVec 1 := Scalar.cmpi .sge v344 c4_i32_249
  let c11_i32_250 : BitVec 32 := 11#32
  let v346 : BitVec 32 := Scalar.subi c11_i32_250 v344
  let v347 : BitVec 32 := Scalar.select v345 v346 v344
  let c512_i32_251 : BitVec 32 := 512#32
  let v348 : BitVec 32 := Scalar.muli v347 c512_i32_251
  let c3_i32_252 : BitVec 32 := 3#32
  let v349 : BitVec 32 := Scalar.addi v5 c3_i32_252
  let c8_i32_253 : BitVec 32 := 8#32
  let v350 : BitVec 32 := Scalar.addi v349 c8_i32_253
  let c8_i32_254 : BitVec 32 := 8#32
  let v351 : BitVec 32 := Scalar.remsi v350 c8_i32_254
  let c4_i32_255 : BitVec 32 := 4#32
  let v352 : BitVec 1 := Scalar.cmpi .sge v351 c4_i32_255
  let c11_i32_256 : BitVec 32 := 11#32
  let v353 : BitVec 32 := Scalar.subi c11_i32_256 v351
  let v354 : BitVec 32 := Scalar.select v352 v353 v351
  let c512_i32_257 : BitVec 32 := 512#32
  let v355 : BitVec 32 := Scalar.muli v354 c512_i32_257
  let v356 : BitVec 32 := Scalar.select v7 v348 v355
  let v366 : Index := Scalar.indexCast v356
  let c0_265 : Index := 0#32
  ![v366.toNat, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let v408 : BitVec 32 := Scalar.extui v7
  let c0_i32_304 : BitVec 32 := 0#32
  let v409 : BitVec 1 := Scalar.cmpi .ne v408 c0_i32_304
  v409

def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c_m1_i32_370 : BitVec 32 := 4294967295#32
  let v514 : BitVec 32 := Scalar.addi v5 c_m1_i32_370
  let c8_i32_371 : BitVec 32 := 8#32
  let v515 : BitVec 32 := Scalar.addi v514 c8_i32_371
  let c8_i32_372 : BitVec 32 := 8#32
  let v516 : BitVec 32 := Scalar.remsi v515 c8_i32_372
  let c4_i32_373 : BitVec 32 := 4#32
  let v517 : BitVec 1 := Scalar.cmpi .sge v516 c4_i32_373
  let c11_i32_374 : BitVec 32 := 11#32
  let v518 : BitVec 32 := Scalar.subi c11_i32_374 v516
  let v519 : BitVec 32 := Scalar.select v517 v518 v516
  let c512_i32_375 : BitVec 32 := 512#32
  let v520 : BitVec 32 := Scalar.muli v519 c512_i32_375
  let c0_i32_379 : BitVec 32 := 0#32
  ![v520.toNat, 0]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c_m2_i32_381 : BitVec 32 := 4294967294#32
  let v525 : BitVec 32 := Scalar.addi v5 c_m2_i32_381
  let c8_i32_382 : BitVec 32 := 8#32
  let v526 : BitVec 32 := Scalar.addi v525 c8_i32_382
  let c8_i32_383 : BitVec 32 := 8#32
  let v527 : BitVec 32 := Scalar.remsi v526 c8_i32_383
  let c4_i32_384 : BitVec 32 := 4#32
  let v528 : BitVec 1 := Scalar.cmpi .sge v527 c4_i32_384
  let c11_i32_385 : BitVec 32 := 11#32
  let v529 : BitVec 32 := Scalar.subi c11_i32_385 v527
  let v530 : BitVec 32 := Scalar.select v528 v529 v527
  let c512_i32_386 : BitVec 32 := 512#32
  let v531 : BitVec 32 := Scalar.muli v530 c512_i32_386
  let c0_i32_390 : BitVec 32 := 0#32
  ![v531.toNat, 0]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32_392 : BitVec 32 := 2#32
  let v536 : BitVec 32 := Scalar.addi v5 c2_i32_392
  let c8_i32_393 : BitVec 32 := 8#32
  let v537 : BitVec 32 := Scalar.addi v536 c8_i32_393
  let c8_i32_394 : BitVec 32 := 8#32
  let v538 : BitVec 32 := Scalar.remsi v537 c8_i32_394
  let c4_i32_395 : BitVec 32 := 4#32
  let v539 : BitVec 1 := Scalar.cmpi .sge v538 c4_i32_395
  let c11_i32_396 : BitVec 32 := 11#32
  let v540 : BitVec 32 := Scalar.subi c11_i32_396 v538
  let v541 : BitVec 32 := Scalar.select v539 v540 v538
  let c512_i32_397 : BitVec 32 := 512#32
  let v542 : BitVec 32 := Scalar.muli v541 c512_i32_397
  let c256_i32 : BitVec 32 := 256#32
  let v543 : BitVec 32 := Scalar.addi v542 c256_i32
  let c0_i32_401 : BitVec 32 := 0#32
  ![v543.toNat, 0]
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32 : BitVec 32 := 2#32
  let v6 : BitVec 32 := Scalar.remsi v5 c2_i32
  let c0_i32 : BitVec 32 := 0#32
  let v7 : BitVec 1 := Scalar.cmpi .eq v6 c0_i32
  let true_305 : BitVec 1 := 1#1
  let v410 : BitVec 1 := Scalar.xori v7 true_305
  let v411 : BitVec 32 := Scalar.extui v410
  let c0_i32_306 : BitVec 32 := 0#32
  let v412 : BitVec 1 := Scalar.cmpi .ne v411 c0_i32_306
  v412

def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c1_i32_370 : BitVec 32 := 1#32
  let v514 : BitVec 32 := Scalar.addi v5 c1_i32_370
  let c8_i32_371 : BitVec 32 := 8#32
  let v515 : BitVec 32 := Scalar.addi v514 c8_i32_371
  let c8_i32_372 : BitVec 32 := 8#32
  let v516 : BitVec 32 := Scalar.remsi v515 c8_i32_372
  let c4_i32_373 : BitVec 32 := 4#32
  let v517 : BitVec 1 := Scalar.cmpi .sge v516 c4_i32_373
  let c11_i32_374 : BitVec 32 := 11#32
  let v518 : BitVec 32 := Scalar.subi c11_i32_374 v516
  let v519 : BitVec 32 := Scalar.select v517 v518 v516
  let c512_i32_375 : BitVec 32 := 512#32
  let v520 : BitVec 32 := Scalar.muli v519 c512_i32_375
  let c0_i32_379 : BitVec 32 := 0#32
  ![v520.toNat, 0]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c_m2_i32_381 : BitVec 32 := 4294967294#32
  let v525 : BitVec 32 := Scalar.addi v5 c_m2_i32_381
  let c8_i32_382 : BitVec 32 := 8#32
  let v526 : BitVec 32 := Scalar.addi v525 c8_i32_382
  let c8_i32_383 : BitVec 32 := 8#32
  let v527 : BitVec 32 := Scalar.remsi v526 c8_i32_383
  let c4_i32_384 : BitVec 32 := 4#32
  let v528 : BitVec 1 := Scalar.cmpi .sge v527 c4_i32_384
  let c11_i32_385 : BitVec 32 := 11#32
  let v529 : BitVec 32 := Scalar.subi c11_i32_385 v527
  let v530 : BitVec 32 := Scalar.select v528 v529 v527
  let c512_i32_386 : BitVec 32 := 512#32
  let v531 : BitVec 32 := Scalar.muli v530 c512_i32_386
  let c0_i32_390 : BitVec 32 := 0#32
  ![v531.toNat, 0]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c11_i32 : BitVec 32 := 11#32
  let v4 : BitVec 32 := Scalar.subi c11_i32 v2
  let v5 : BitVec 32 := Scalar.select v3 v4 v2
  let c2_i32_392 : BitVec 32 := 2#32
  let v536 : BitVec 32 := Scalar.addi v5 c2_i32_392
  let c8_i32_393 : BitVec 32 := 8#32
  let v537 : BitVec 32 := Scalar.addi v536 c8_i32_393
  let c8_i32_394 : BitVec 32 := 8#32
  let v538 : BitVec 32 := Scalar.remsi v537 c8_i32_394
  let c4_i32_395 : BitVec 32 := 4#32
  let v539 : BitVec 1 := Scalar.cmpi .sge v538 c4_i32_395
  let c11_i32_396 : BitVec 32 := 11#32
  let v540 : BitVec 32 := Scalar.subi c11_i32_396 v538
  let v541 : BitVec 32 := Scalar.select v539 v540 v538
  let c512_i32_397 : BitVec 32 := 512#32
  let v542 : BitVec 32 := Scalar.muli v541 c512_i32_397
  let c256_i32 : BitVec 32 := 256#32
  let v543 : BitVec 32 := Scalar.addi v542 c256_i32
  let c0_i32_401 : BitVec 32 := 0#32
  ![v543.toNat, 0]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v418 : Index := Scalar.indexCast v2
  let c0_311 : Index := 0#32
  ![v418.toNat, 0]
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_312 : BitVec 32 := 0#32
  let v422 : BitVec 1 := Scalar.cmpi .ne v2 c0_i32_312
  let v423 : BitVec 32 := Scalar.extui v422
  let c0_i32_313 : BitVec 32 := 0#32
  let v424 : BitVec 1 := Scalar.cmpi .ne v423 c0_i32_313
  v424

def k0_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_374 : BitVec 32 := 0#32
  ![v2.toNat, 0]
def k0_dev15 : Nat :=
  let c0_i32_373 : BitVec 32 := 0#32
  let c0_i32_371 : BitVec 32 := 0#32
  let c1_i32_372 : BitVec 32 := 1#32
  let v514 : BitVec 32 := Scalar.muli c0_i32_371 c1_i32_372
  let v515 : BitVec 32 := Scalar.addi c0_i32_373 v514
  v515.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_314 : BitVec 32 := 1#32
  let v425 : BitVec 1 := Scalar.cmpi .ne v2 c1_i32_314
  let v426 : BitVec 32 := Scalar.extui v425
  let c0_i32_315 : BitVec 32 := 0#32
  let v427 : BitVec 1 := Scalar.cmpi .ne v426 c0_i32_315
  v427

def k0_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_374 : BitVec 32 := 0#32
  ![v2.toNat, 0]
def k0_dev16 : Nat :=
  let c0_i32_373 : BitVec 32 := 0#32
  let c1_i32_371 : BitVec 32 := 1#32
  let c1_i32_372 : BitVec 32 := 1#32
  let v514 : BitVec 32 := Scalar.muli c1_i32_371 c1_i32_372
  let v515 : BitVec 32 := Scalar.addi c0_i32_373 v514
  v515.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_316 : BitVec 32 := 2#32
  let v428 : BitVec 1 := Scalar.cmpi .ne v2 c2_i32_316
  let v429 : BitVec 32 := Scalar.extui v428
  let c0_i32_317 : BitVec 32 := 0#32
  let v430 : BitVec 1 := Scalar.cmpi .ne v429 c0_i32_317
  v430

def k0_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_374 : BitVec 32 := 0#32
  ![v2.toNat, 0]
def k0_dev17 : Nat :=
  let c0_i32_373 : BitVec 32 := 0#32
  let c2_i32_371 : BitVec 32 := 2#32
  let c1_i32_372 : BitVec 32 := 1#32
  let v514 : BitVec 32 := Scalar.muli c2_i32_371 c1_i32_372
  let v515 : BitVec 32 := Scalar.addi c0_i32_373 v514
  v515.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_318 : BitVec 32 := 3#32
  let v431 : BitVec 1 := Scalar.cmpi .ne v2 c3_i32_318
  let v432 : BitVec 32 := Scalar.extui v431
  let c0_i32_319 : BitVec 32 := 0#32
  let v433 : BitVec 1 := Scalar.cmpi .ne v432 c0_i32_319
  v433

def k0_off35 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_374 : BitVec 32 := 0#32
  ![v2.toNat, 0]
def k0_dev18 : Nat :=
  let c0_i32_373 : BitVec 32 := 0#32
  let c3_i32_371 : BitVec 32 := 3#32
  let c1_i32_372 : BitVec 32 := 1#32
  let v514 : BitVec 32 := Scalar.muli c3_i32_371 c1_i32_372
  let v515 : BitVec 32 := Scalar.addi c0_i32_373 v514
  v515.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_320 : BitVec 32 := 4#32
  let v434 : BitVec 1 := Scalar.cmpi .ne v2 c4_i32_320
  let v435 : BitVec 32 := Scalar.extui v434
  let c0_i32_321 : BitVec 32 := 0#32
  let v436 : BitVec 1 := Scalar.cmpi .ne v435 c0_i32_321
  v436

def k0_off37 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_374 : BitVec 32 := 0#32
  ![v2.toNat, 0]
def k0_dev19 : Nat :=
  let c0_i32_373 : BitVec 32 := 0#32
  let c4_i32_371 : BitVec 32 := 4#32
  let c1_i32_372 : BitVec 32 := 1#32
  let v514 : BitVec 32 := Scalar.muli c4_i32_371 c1_i32_372
  let v515 : BitVec 32 := Scalar.addi c0_i32_373 v514
  v515.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_322 : BitVec 32 := 5#32
  let v437 : BitVec 1 := Scalar.cmpi .ne v2 c5_i32_322
  let v438 : BitVec 32 := Scalar.extui v437
  let c0_i32_323 : BitVec 32 := 0#32
  let v439 : BitVec 1 := Scalar.cmpi .ne v438 c0_i32_323
  v439

def k0_off39 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_374 : BitVec 32 := 0#32
  ![v2.toNat, 0]
def k0_dev20 : Nat :=
  let c0_i32_373 : BitVec 32 := 0#32
  let c5_i32_371 : BitVec 32 := 5#32
  let c1_i32_372 : BitVec 32 := 1#32
  let v514 : BitVec 32 := Scalar.muli c5_i32_371 c1_i32_372
  let v515 : BitVec 32 := Scalar.addi c0_i32_373 v514
  v515.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v440 : BitVec 1 := Scalar.cmpi .ne v2 c6_i32
  let v441 : BitVec 32 := Scalar.extui v440
  let c0_i32_324 : BitVec 32 := 0#32
  let v442 : BitVec 1 := Scalar.cmpi .ne v441 c0_i32_324
  v442

def k0_off41 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_374 : BitVec 32 := 0#32
  ![v2.toNat, 0]
def k0_dev21 : Nat :=
  let c0_i32_373 : BitVec 32 := 0#32
  let c6_i32_371 : BitVec 32 := 6#32
  let c1_i32_372 : BitVec 32 := 1#32
  let v514 : BitVec 32 := Scalar.muli c6_i32_371 c1_i32_372
  let v515 : BitVec 32 := Scalar.addi c0_i32_373 v514
  v515.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_325 : BitVec 32 := 7#32
  let v443 : BitVec 1 := Scalar.cmpi .ne v2 c7_i32_325
  let v444 : BitVec 32 := Scalar.extui v443
  let c0_i32_326 : BitVec 32 := 0#32
  let v445 : BitVec 1 := Scalar.cmpi .ne v444 c0_i32_326
  v445

def k0_off43 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off44 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_374 : BitVec 32 := 0#32
  ![v2.toNat, 0]
def k0_dev22 : Nat :=
  let c0_i32_373 : BitVec 32 := 0#32
  let c7_i32_371 : BitVec 32 := 7#32
  let c1_i32_372 : BitVec 32 := 1#32
  let v514 : BitVec 32 := Scalar.muli c7_i32_371 c1_i32_372
  let v515 : BitVec 32 := Scalar.addi c0_i32_373 v514
  v515.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_343 : BitVec 32 := 0#32
  let v470 : BitVec 1 := Scalar.cmpi .ne v2 c0_i32_343
  let v471 : BitVec 32 := Scalar.extui v470
  let c0_i32_344 : BitVec 32 := 0#32
  let v472 : BitVec 1 := Scalar.cmpi .ne v471 c0_i32_344
  v472

def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_373 : BitVec 32 := 0#32
  ![v2.toNat, 0]
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_345 : BitVec 32 := 1#32
  let v473 : BitVec 1 := Scalar.cmpi .ne v2 c1_i32_345
  let v474 : BitVec 32 := Scalar.extui v473
  let c0_i32_346 : BitVec 32 := 0#32
  let v475 : BitVec 1 := Scalar.cmpi .ne v474 c0_i32_346
  v475

def k0_off46 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_373 : BitVec 32 := 0#32
  ![v2.toNat, 0]
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_347 : BitVec 32 := 2#32
  let v476 : BitVec 1 := Scalar.cmpi .ne v2 c2_i32_347
  let v477 : BitVec 32 := Scalar.extui v476
  let c0_i32_348 : BitVec 32 := 0#32
  let v478 : BitVec 1 := Scalar.cmpi .ne v477 c0_i32_348
  v478

def k0_off47 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_373 : BitVec 32 := 0#32
  ![v2.toNat, 0]
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_349 : BitVec 32 := 3#32
  let v479 : BitVec 1 := Scalar.cmpi .ne v2 c3_i32_349
  let v480 : BitVec 32 := Scalar.extui v479
  let c0_i32_350 : BitVec 32 := 0#32
  let v481 : BitVec 1 := Scalar.cmpi .ne v480 c0_i32_350
  v481

def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_373 : BitVec 32 := 0#32
  ![v2.toNat, 0]
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_351 : BitVec 32 := 4#32
  let v482 : BitVec 1 := Scalar.cmpi .ne v2 c4_i32_351
  let v483 : BitVec 32 := Scalar.extui v482
  let c0_i32_352 : BitVec 32 := 0#32
  let v484 : BitVec 1 := Scalar.cmpi .ne v483 c0_i32_352
  v484

def k0_off49 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_373 : BitVec 32 := 0#32
  ![v2.toNat, 0]
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_353 : BitVec 32 := 5#32
  let v485 : BitVec 1 := Scalar.cmpi .ne v2 c5_i32_353
  let v486 : BitVec 32 := Scalar.extui v485
  let c0_i32_354 : BitVec 32 := 0#32
  let v487 : BitVec 1 := Scalar.cmpi .ne v486 c0_i32_354
  v487

def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_373 : BitVec 32 := 0#32
  ![v2.toNat, 0]
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_355 : BitVec 32 := 6#32
  let v488 : BitVec 1 := Scalar.cmpi .ne v2 c6_i32_355
  let v489 : BitVec 32 := Scalar.extui v488
  let c0_i32_356 : BitVec 32 := 0#32
  let v490 : BitVec 1 := Scalar.cmpi .ne v489 c0_i32_356
  v490

def k0_off51 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_373 : BitVec 32 := 0#32
  ![v2.toNat, 0]
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_357 : BitVec 32 := 7#32
  let v491 : BitVec 1 := Scalar.cmpi .ne v2 c7_i32_357
  let v492 : BitVec 32 := Scalar.extui v491
  let c0_i32_358 : BitVec 32 := 0#32
  let v493 : BitVec 1 := Scalar.cmpi .ne v492 c0_i32_358
  v493

def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_373 : BitVec 32 := 0#32
  ![v2.toNat, 0]
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 10
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Topo.lean ====
/- The ring of eight devices, the eight block copies each device sends and receives, and where the printed
   program's peers, offsets and semaphores lie in it.

   A device `c` has a place `ring c` on a ring of eight; `go c j` is the device `j` places further. Every device has
   three neighbours: right (one on), left (one back) and across (`chord`: three on from an even place, three back
   from an odd one), and neighbours have opposite parity. A device sends eight copies, indexed `e : Fin 8` so that
   exactly one copy of each index lands on every device:

     e   lands on          carries
     0   right             the sender's own block
     1   left              the sender's own block
     2   across            the sender's own block
     3   right             the left neighbour's block
     4   left              the right neighbour's block
     5   across            the left neighbour's block (even place) or the right neighbour's (odd place)
     6   across or right   the first half of the block two places back
     7   left or across    the second half of the block two places on

   so that block `org c e` (whole for `e < 6`, half of one block for 6 and 7) lands on `c` by copy `e`. -/
module

public import proofs.«01_k».proof.Proof.Gen.KernelIdeal
public import proofs.«01_k».proof.Proof.Gen.KernelIdeal.Skeleton

@[expose] public section

namespace Cert.GatherQuant

open Idealize.ShloMosaic Idealize.ShloMosaic.TcCoe
open Cert.KernelIdeal Cert.KernelIdeal.Gen

/-! ## The ring -/

/-- The device at a place, and the place of a device. -/
def perm (v : ℕ) : ℕ := if v ≥ 4 then 11 - v else v
/-- The place of a device on the ring. -/
def ring (c : Dev nD) : ℕ := perm c.val
/-- The device `j` places on from `c`. -/
def go (c : Dev nD) (j : ℕ) : Dev nD :=
  ⟨perm ((ring c + j) % 8), by
    have h : (ring c + j) % 8 < 8 := Nat.mod_lt _ (by decide)
    unfold perm; show _ < 8; split <;> omega⟩
/-- Whether the device's place is even. -/
def even (c : Dev nD) : Bool := ring c % 2 == 0

/-- The neighbour in a direction: right, left, across. -/
def nb (c : Dev nD) : Fin 3 → Dev nD := ![go c 1, go c 7, go c (if even c then 3 else 5)]
/-- The direction in which a neighbour sees the device back. -/
def back : Fin 3 → Fin 3 := ![1, 0, 2]
/-- The device whose block arrives in two halves. -/
def far (c : Dev nD) : Dev nD := go c (if even c then 5 else 3)

/-- The direction copy `e` is sent in. -/
def tdir (c : Dev nD) : Fin 8 → Fin 3 := ![0, 1, 2, 0, 1, 2, if even c then 2 else 0, if even c then 1 else 2]
/-- The device copy `e` lands on. -/
def tgt (c : Dev nD) (e : Fin 8) : Dev nD := nb c (tdir c e)
/-- The direction copy `e` arrives from. -/
def sdir (c : Dev nD) : Fin 8 → Fin 3 := ![1, 0, 2, 1, 0, 2, if even c then 1 else 2, if even c then 2 else 0]
/-- The device copy `e` arrives from. -/
def src (c : Dev nD) (e : Fin 8) : Dev nD := nb c (sdir c e)
/-- The device whose block copy `e` brings. -/
def org (c : Dev nD) : Fin 8 → Dev nD := ![nb c 1, nb c 0, nb c 2, go c 6, go c 2, go c 4, far c, far c]
/-- The device whose block copy `e` carries away. -/
def sorg (c : Dev nD) : Fin 8 → Dev nD :=
  ![c, c, c, nb c 1, nb c 0, if even c then nb c 1 else nb c 0, go c 6, go c 2]

theorem src_tgt : ∀ (c : Dev nD) (e : Fin 8), src (tgt c e) e = c := by decide +kernel
theorem tgt_src : ∀ (c : Dev nD) (e : Fin 8), tgt (src c e) e = c := by decide +kernel
theorem org_tgt : ∀ (c : Dev nD) (e : Fin 8), org (tgt c e) e = sorg c e := by decide +kernel
theorem sorg_src : ∀ (c : Dev nD) (e : Fin 8), sorg (src c e) e = org c e := by decide +kernel
theorem nb_back : ∀ (c : Dev nD) (d : Fin 3), nb (nb c d) (back d) = c := by decide +kernel
theorem back_back : ∀ d : Fin 3, back (back d) = d := by decide
theorem nb_ne : ∀ (c : Dev nD) (d : Fin 3), nb c d ≠ c := by decide +kernel
theorem tgt_ne : ∀ (c : Dev nD) (e : Fin 8), tgt c e ≠ c := by decide +kernel
theorem org_ne : ∀ (c : Dev nD) (e : Fin 8), org c e ≠ c := by decide +kernel

/-! ## Rows of the gathered array -/

/-- The first row a copy of index `e` of device `p`'s block covers. -/
def lo (p : Dev nD) (e : Fin 8) : ℕ := 512 * p.val + (if e = 7 then 256 else 0)
/-- How many rows a copy of index `e` covers. -/
def cnt (e : Fin 8) : ℕ := if e = 6 ∨ e = 7 then 256 else 512

/-! ## Semaphores -/

/-- The semaphore counted up at the sender when its copy `e` has left. -/
def sndK (c : Dev nD) : Fin 8 → Fin 37 :=
  ![3, 9, 15, 4, 10, 16, if even c then 17 else 5, if even c then 11 else 17]
/-- The semaphore counted up at the receiver when copy `e` has landed. -/
def rcvK (c : Dev nD) : Fin 8 → Fin 37 :=
  ![6, 12, 18, 7, 13, 19, if even c then 8 else 20, if even c then 20 else 14]
/-- The semaphore counted up at the sender when its maximum has left for `p`. -/
def axsK (p : Dev nD) : Fin 37 := ⟨21 + p.val, Nat.lt_of_lt_of_le (Nat.add_lt_add_left p.isLt 21) (by decide)⟩
/-- The semaphore counted up at the receiver when the maximum of `p` has landed. -/
def axrK (p : Dev nD) : Fin 37 := ⟨29 + p.val, Nat.add_lt_add_left p.isLt 29⟩

/-- What a semaphore counts on a device. -/
inductive Role where
  /-- nothing -/
  | idle
  /-- neighbours that have started -/
  | bar
  /-- copy `e` has left -/
  | snd (e : Fin 8)
  /-- copy `e` has landed -/
  | rcv (e : Fin 8)
  /-- the maximum has left for `p` -/
  | axs (p : Fin 8)
  /-- the maximum of `p` has landed -/
  | axr (p : Fin 8)
  deriving DecidableEq

/-- The role of each transfer semaphore: on an even place three of the twenty-four copy semaphores stay unused and on
    an odd place three others; so do the device's own two semaphores of the exchange of maxima. -/
def roleD (c : Dev nD) (k : Fin 37) : Role :=
  if k.val < 21 then
    (![.idle, .idle, .idle,
      .snd 0, .snd 3, if even c then .idle else .snd 6, .rcv 0, .rcv 3, if even c then .rcv 6 else .idle,
      .snd 1, .snd 4, if even c then .snd 7 else .idle, .rcv 1, .rcv 4, if even c then .idle else .rcv 7,
      .snd 2, .snd 5, if even c then .snd 6 else .snd 7, .rcv 2, .rcv 5, if even c then .rcv 7 else .rcv 6] :
        Fin 21 → Role) (Fin.ofNat 21 k.val)
  else if k.val < 29 then (if k.val - 21 = c.val then .idle else .axs (Fin.ofNat 8 (k.val - 21)))
  else if k.val - 29 = c.val then .idle else .axr (Fin.ofNat 8 (k.val - 29))

theorem roleD_snd : ∀ (c : Dev nD) (e : Fin 8), roleD c (sndK c e) = .snd e := by decide +kernel
theorem roleD_rcv : ∀ (c : Dev nD) (e : Fin 8), roleD c (rcvK c e) = .rcv e := by decide +kernel
theorem roleD_axs : ∀ c p : Dev nD, p ≠ c → roleD c (axsK p) = .axs p := by decide +kernel
theorem roleD_axr : ∀ c p : Dev nD, p ≠ c → roleD c (axrK p) = .axr p := by decide +kernel
theorem roleD_self : ∀ c : Dev nD, roleD c (axsK c) = .idle ∧ roleD c (axrK c) = .idle := by decide +kernel

/-! ## The rights to write a device's maximum

Device `j` writes its maximum into row `j` of every other device `p`'s table; the right to do so travels from `p` to
`j` with `p`'s block. `R e p` is the set of devices whose rights copy `e` of `p`'s block carries: those it lands on and
those that are reached from there. -/

/-- The devices whose rights copy `e` of `p`'s block carries. -/
def R (e : Fin 8) (p : Dev nD) : Finset (Dev nD) :=
  (![(if even p then {go p 1, go p 2, far p} else {go p 1, go p 2, far p, go p 4}),
     (if even p then {go p 7, go p 6, go p 4} else {go p 7, go p 6}),
     {nb p 2}, {go p 2, far p}, {go p 6}, {go p 4}, {far p}, ∅] : Fin 8 → Finset (Dev nD)) e

/-- At the start: the first three copies carry all rights. -/
theorem R_start : ∀ c : Dev nD, Finset.univ.erase c = R 0 c ∪ (R 1 c ∪ R 2 c) ∧ Disjoint (R 0 c) (R 1 c ∪ R 2 c)
    ∧ Disjoint (R 1 c) (R 2 c) := by decide +kernel
/-- What is taken out of copy 0's rights and what is passed on. -/
theorem R_zero : ∀ c : Dev nD, R 0 (org c 0) = insert c (R 3 (sorg c 3) ∪ (if even c then R 5 (sorg c 5) else ∅))
    ∧ c ∉ R 3 (sorg c 3) ∪ (if even c then R 5 (sorg c 5) else ∅)
    ∧ Disjoint (R 3 (sorg c 3)) (if even c then R 5 (sorg c 5) else ∅) := by decide +kernel
theorem R_one : ∀ c : Dev nD, R 1 (org c 1) = insert c (R 4 (sorg c 4) ∪ (if even c then ∅ else R 5 (sorg c 5)))
    ∧ c ∉ R 4 (sorg c 4) ∪ (if even c then ∅ else R 5 (sorg c 5))
    ∧ Disjoint (R 4 (sorg c 4)) (if even c then ∅ else R 5 (sorg c 5)) := by decide +kernel
theorem R_three : ∀ c : Dev nD, R 3 (org c 3) = insert c (R 6 (sorg c 6)) ∧ c ∉ R 6 (sorg c 6) := by decide +kernel
theorem R_last : ∀ c : Dev nD, R 2 (org c 2) = {c} ∧ R 4 (org c 4) = {c} ∧ R 5 (org c 5) = {c} ∧ R 6 (org c 6) = {c}
    ∧ R 7 (org c 7) = ∅ ∧ R 7 (sorg c 7) = ∅ := by decide +kernel

/-! ## The printed program's peers -/

theorem dev1 : ∀ c : Dev nD, (⟨k0_dev1 c, k0_dev1_lt c⟩ : Dev nD) = nb c 1 := by decide +kernel
theorem dev2 : ∀ c : Dev nD, (⟨k0_dev2 c, k0_dev2_lt c⟩ : Dev nD) = nb c 0 := by decide +kernel
theorem dev3 : ∀ c : Dev nD, (⟨k0_dev3 c, k0_dev3_lt c⟩ : Dev nD) = nb c 2 := by decide +kernel
theorem dev4 : ∀ c : Dev nD, (⟨k0_dev4 c, k0_dev4_lt c⟩ : Dev nD) = tgt c 0 := by decide +kernel
theorem dev5 : ∀ c : Dev nD, (⟨k0_dev5 c, k0_dev5_lt c⟩ : Dev nD) = tgt c 1 := by decide +kernel
theorem dev6 : ∀ c : Dev nD, (⟨k0_dev6 c, k0_dev6_lt c⟩ : Dev nD) = tgt c 2 := by decide +kernel
theorem dev7 : ∀ c : Dev nD, (⟨k0_dev7 c, k0_dev7_lt c⟩ : Dev nD) = tgt c 3 := by decide +kernel
theorem dev8 : ∀ (c : Dev nD) (h : k0_cond1 c = 1#1), (⟨k0_dev8 c, k0_dev8_lt c h⟩ : Dev nD) = tgt c 5 := by decide +kernel
theorem dev9 : ∀ c : Dev nD, (⟨k0_dev9 c, k0_dev9_lt c⟩ : Dev nD) = tgt c 4 := by decide +kernel
theorem dev10 : ∀ (c : Dev nD) (h : k0_cond2 c = 1#1), (⟨k0_dev10 c, k0_dev10_lt c h⟩ : Dev nD) = tgt c 5 := by decide +kernel
theorem dev11 : ∀ (c : Dev nD) (h : k0_cond3 c = 1#1), (⟨k0_dev11 c, k0_dev11_lt c h⟩ : Dev nD) = tgt c 6 := by decide +kernel
theorem dev12 : ∀ (c : Dev nD) (h : k0_cond4 c = 1#1), (⟨k0_dev12 c, k0_dev12_lt c h⟩ : Dev nD) = tgt c 6 := by decide +kernel
theorem dev13 : ∀ (c : Dev nD) (h : k0_cond5 c = 1#1), (⟨k0_dev13 c, k0_dev13_lt c h⟩ : Dev nD) = tgt c 7 := by decide +kernel
theorem dev14 : ∀ (c : Dev nD) (h : k0_cond6 c = 1#1), (⟨k0_dev14 c, k0_dev14_lt c h⟩ : Dev nD) = tgt c 7 := by decide +kernel

end Cert.GatherQuant
-- ==== Proof.Contents.lean ====
/- What the buffers hold: the gathered array, the device's own block of the second argument, the product, the maximum
   and the table of maxima, each as one function of the launch memory. Every device's gathered array tends to ONE
   function `XG` — it does not depend on the device —, which is what makes a landing's contents the sender's contents. -/
module

public import proofs.«01_k».proof.Proof.Topo
public import proofs.«01_k».proof.Proof.Gen.KernelIdeal.Launch
public import proofs.«01_k».proof.Proof.Gen.KernelIdeal.Points
public import proofs.«01_k».proof.Proof.Gen.KernelIdeal.Frame
public import Idealize.ShloMosaic.Lib.Pointwise.Index
public import Idealize.ShloMosaic.Lib.Pipeline.Value

@[expose] public section

noncomputable section

namespace Cert.GatherQuant

open Idealize.ShloMosaic Idealize.ShloMosaic.TcCoe
open Cert.KernelIdeal Cert.KernelIdeal.Gen

variable {F : FTy → Type} [FloatOps F]
variable (m : (ℓ : Loc nD τ sig) → Buf (Elt F) ℓ)

/-! ## The buffers -/

/-- The staged block of the first argument. -/
abbrev xM : Memref sig .tc .vmem S512x4096 .bf16 := Memref.whole cc0_stg0_0
/-- The staged block of the second argument. -/
abbrev wM : Memref sig .tc .vmem S4096x256 .bf16 := Memref.whole cc0_stg1_0
/-- The staged result. -/
abbrev oM : Memref sig .tc .vmem S4096x256 .f32 := Memref.whole cc0_stg2_0
/-- The gathered array. -/
abbrev gM : Memref sig .tc .vmem S4096x4096 .bf16 := Memref.whole cc0_scratch0
/-- The copy of the second argument's block that the products read. -/
abbrev vM : Memref sig .tc .vmem S4096x256 .bf16 := Memref.whole cc0_scratch1
/-- The device's maximum, as sent. -/
abbrev aM : Memref sig .tc .vmem S1x128 .f32 := Memref.whole cc0_scratch2
/-- The table of the devices' maxima. -/
abbrev tM : Memref sig .tc .vmem S8x128 .f32 := Memref.whole cc0_scratch3

/-! ## Contents -/

/-- The block of the first argument staged on a device. -/
def xst (c : Dev nD) : S512x4096.Idx → Elt F .bf16 := iblk m c 0 t0_0
/-- The block of the second argument staged on a device. -/
def wst (c : Dev nD) : S4096x256.Idx → Elt F .bf16 := iblk m c 1 t0_0
/-- A device's block of the gathered array. -/
def xblk (c : Dev nD) : S512x4096.Idx → Elt F .bf16 := k0_pay2 (xst m c)
/-- The second factor of a device's products. -/
def wv (c : Dev nD) : S4096x256.Idx → Elt F .bf16 := k0_pay3 (wst m c)

/-- The device whose block holds a row of an array of eight blocks of 512 rows. -/
def blkOf (i : Fin 4096) : Dev nD := ⟨i.val / 512, by show _ < 8; omega⟩
/-- The row within the block. -/
def rowOf (i : Fin 4096) : Fin 512 := ⟨i.val % 512, by omega⟩

/-- Eight blocks of 512 rows, one under the other. -/
def stack {b : ℕ} {α : Type} (B : Dev nD → Shape.Idx ⟨2, ![512, b]⟩ → α) : Shape.Idx ⟨2, ![4096, b]⟩ → α :=
  fun i => B (blkOf (i 0)) (ix2 (rowOf (i 0)) (i 1))

/-- The gathered array: every device's block. -/
def XG : S4096x4096.Idx → Elt F .bf16 := stack (xblk m)
/-- The product of device `s`'s block with device `c`'s columns. -/
def gemm (c s : Dev nD) : S512x256.Idx → Elt F .f32 := k0_pay4 (xblk m s) (wv m c)
/-- All eight products. -/
def Y (c : Dev nD) : S4096x256.Idx → Elt F .f32 := stack (gemm m c)

/-- The greatest absolute value after each of the eight products, in the order the device meets the blocks. -/
def am0 (c : Dev nD) : Elt F .f32 := k0_pay5 (xblk m c) (wv m c)
def am1 (c : Dev nD) : Elt F .f32 := k0_pay7 (am0 m c) (xblk m (org c 0)) (wv m c)
def am3 (c : Dev nD) : Elt F .f32 := k0_pay10 (am1 m c) (xblk m (org c 1)) (wv m c) (xblk m (org c 2)) (wv m c)
def am5 (c : Dev nD) : Elt F .f32 :=
  k0_pay14 (am3 m c) (k0_pay12 (xblk m (org c 3)) (wv m c)) (xblk m (org c 4)) (wv m c)
def am6 (c : Dev nD) : Elt F .f32 := k0_pay16 (am5 m c) (xblk m (org c 5)) (wv m c)
def am7 (c : Dev nD) : Elt F .f32 := k0_pay18 (am6 m c) (xblk m (far c)) (wv m c)

/-- The maximum as sent, one row of equal entries. -/
def AX (c : Dev nD) : S1x128.Idx → Elt F .f32 := k0_pay20 (k0_pay19 (am7 m c))
/-- The maximum as the device stores it in its own row. -/
def AXs (c : Dev nD) : S1x128.Idx → Elt F .f32 := k0_pay21 (AX m c)
set_option maxRecDepth 65536 in
theorem AXs_eq (c : Dev nD) : AXs m c = AX m c := by
  unfold AXs k0_pay21
  exact shapeCast_self (AX m c) _
/-- The table of maxima: row `p` is what device `p` sent. The same on every device. -/
def MX : S8x128.Idx → Elt F .f32 := fun i => AX m (i 0) (ix2 0 (i 1))
/-- A device's result. -/
def outAt (c : Dev nD) : S4096x256.Idx → Elt F .f32 := k0_pay1 (k0_pay23 (MX m)) (k0_pay24 (MX m) (Y m c))

/-! ## Rows -/

/-- The elements of a band of rows. -/
def rows {a b : ℕ} (l n : ℕ) : Finset (Shape.Idx ⟨2, ![a, b]⟩) :=
  Finset.univ.filter fun i => l ≤ (i 0 : Fin a).val ∧ (i 0 : Fin a).val < l + n

theorem mem_rows {a b l n : ℕ} {i : Shape.Idx ⟨2, ![a, b]⟩} :
    i ∈ rows l n ↔ l ≤ (i 0 : Fin a).val ∧ (i 0 : Fin a).val < l + n := by simp [rows]

theorem rows_all {a b : ℕ} : (rows 0 a : Finset (Shape.Idx ⟨2, ![a, b]⟩)) = Finset.univ := by
  ext i; simp only [mem_rows, Finset.mem_univ, iff_true]
  exact ⟨Nat.zero_le _, by rw [Nat.zero_add]; exact (i 0 : Fin a).isLt⟩

theorem rows_add {a b : ℕ} (l n n' : ℕ) :
    (rows l (n + n') : Finset (Shape.Idx ⟨2, ![a, b]⟩)) = rows l n ∪ rows (l + n) n' := by
  ext i; simp only [mem_rows, Finset.mem_union]; omega

theorem rows_disjoint {a b l n l' n' : ℕ} (h : l + n ≤ l' ∨ l' + n' ≤ l) :
    Disjoint (rows l n : Finset (Shape.Idx ⟨2, ![a, b]⟩)) (rows l' n') :=
  Finset.disjoint_left.mpr fun i hi hi' => by rw [mem_rows] at hi hi'; omega

/-- The elements of a rectangle of whole rows. -/
theorem rect_set {a b l n : ℕ} {off : Fin 2 → ℕ} (h : off = ![l, 0])
    (inb : ∀ x, off x + (![n, b] : Fin 2 → ℕ) x ≤ (⟨2, ![a, b]⟩ : Shape).size x) :
    (Rect.unit (s := ⟨2, ![a, b]⟩) off ![n, b] inb).set = rows l n := by
  subst h; ext i
  rw [Rect.mem_set_unit, mem_rows, Fin.forall_fin_two]
  have := (i 1 : Fin b).isLt
  simp only [Matrix.cons_val_zero, Matrix.cons_val_one]
  constructor
  · exact fun h => h.1
  · exact fun h => ⟨h, Nat.zero_le _, by simpa using this⟩

/-- Where a rectangle of whole rows has its elements. -/
theorem rect_emb {a b l n : ℕ} {off : Fin 2 → ℕ} (h : off = ![l, 0])
    (inb : ∀ x, off x + (![n, b] : Fin 2 → ℕ) x ≤ (⟨2, ![a, b]⟩ : Shape).size x) (j : Shape.Idx ⟨2, ![n, b]⟩) :
    (((Rect.unit (s := ⟨2, ![a, b]⟩) off ![n, b] inb).emb j) 0 : Fin a).val = l + (j 0 : Fin n).val
    ∧ (((Rect.unit (s := ⟨2, ![a, b]⟩) off ![n, b] inb).emb j) 1 : Fin b).val = (j 1 : Fin b).val := by
  subst h
  constructor
  · show ![l, 0] 0 + 1 * (j 0 : Fin n).val = _
    simp
  · show ![l, 0] 1 + 1 * (j 1 : Fin b).val = _
    simp

/-! ## Reading and writing bands of rows -/

theorem blkOf_val {l : ℕ} {i : Fin 4096} {s : Dev nD} (h : i.val = 512 * s.val + l) (hl : l < 512) : blkOf i = s :=
  Fin.ext (by show i.val / 512 = s.val; omega)
theorem rowOf_val {s l : ℕ} {i : Fin 4096} (h : i.val = 512 * s + l) (hl : l < 512) : (rowOf i).val = l := by
  show i.val % 512 = l; omega

/-- Block `s`'s rows of the stack are block `s`. -/
theorem stack_emb {b : ℕ} {α : Type} (B : Dev nD → Shape.Idx ⟨2, ![512, b]⟩ → α) (s : Dev nD) {off : Fin 2 → ℕ}
    (h : off = ![512 * s.val, 0])
    (inb : ∀ x, off x + (![512, b] : Fin 2 → ℕ) x ≤ (⟨2, ![4096, b]⟩ : Shape).size x) (j : Shape.Idx ⟨2, ![512, b]⟩) :
    stack B ((Rect.unit (s := ⟨2, ![4096, b]⟩) off ![512, b] inb).emb j) = B s j := by
  have e := rect_emb (a := 4096) (b := b) (n := 512) h inb j
  have hj : (j 0 : Fin 512).val < 512 := (j 0 : Fin 512).isLt
  unfold stack
  rw [blkOf_val e.1 hj]
  congr 1
  refine (congrArg₂ ix2 (Fin.ext (rowOf_val e.1 hj)) (Fin.ext e.2)).trans (ix2_eta j)

/-- What a block's rows of the gathered array hold is that block. -/
theorem read_XG (s : Dev nD) {off : Fin 2 → ℕ} (h : off = ![512 * s.val, 0])
    (inb : ∀ x, off x + S512x4096.size x ≤ S4096x4096.size x) :
    gM.view.readAt (Elt F) (Rect.unit (s := S4096x4096) off S512x4096.size inb).toLoadRect (XG m) = xblk m s :=
  funext fun j => stack_emb (xblk m) s h inb j

/-- What a block's rows of the products hold is that block's product. -/
theorem read_Y (c s : Dev nD) {off : Fin 2 → ℕ} (h : off = ![512 * s.val, 0])
    (inb : ∀ x, off x + S512x256.size x ≤ S4096x256.size x) :
    (oM.access (Rect.unit (s := S4096x256) off S512x256.size inb)).read (Elt F) (Y m c) = gemm m c s :=
  funext fun j => stack_emb (gemm m c) s h inb j

/-- What a device's row of the table of maxima holds is that device's maximum. -/
theorem read_MX (p : Dev nD) {off : Fin 2 → ℕ} (h : off = ![p.val, 0])
    (inb : ∀ x, off x + S1x128.size x ≤ S8x128.size x) :
    (tM.access (Rect.unit (s := S8x128) off S1x128.size inb)).read (Elt F) (MX m) = AX m p := by
  funext j
  have e := rect_emb (a := 8) (b := 128) (n := 1) h inb j
  have hj : (j 0 : Fin 1).val = 0 := by exact Nat.lt_one_iff.mp (j 0 : Fin 1).isLt
  have h0 : ((Rect.unit (s := S8x128) off S1x128.size inb).emb j) 0 = p := Fin.ext (e.1.trans (by rw [hj]; rfl))
  show AX m (((Rect.unit (s := S8x128) off S1x128.size inb).emb j) 0) (ix2 0 (((Rect.unit (s := S8x128) off S1x128.size inb).emb j) 1)) = _
  rw [h0]
  congr 1
  exact (congrArg₂ ix2 (Fin.ext (by rw [hj]; rfl)) (Fin.ext e.2)).trans (ix2_eta j)

/-- Writing through a view what it reads of `g` leaves `g` on the view's elements. -/
theorem write_of_read {Val : EltTy → Type} {κ : Kind} {sp : Space} {s : Shape} {e : EltTy} (v : View sig κ sp s e)
    (f g : v.ty.Contents Val) {w : s.Idx → Val e} (hw : v.read Val g = w) (i : v.ty.Idx) (hi : i ∈ v.set) :
    v.write Val f w Finset.univ i = g i := by
  rw [← hw, View.write_read_eq_piecewise, View.setOn_univ, Finset.piecewise_eq_of_mem _ _ _ hi]
theorem write_off {Val : EltTy → Type} {κ : Kind} {sp : Space} {s : Shape} {e : EltTy} (v : View sig κ sp s e)
    (f : v.ty.Contents Val) {w : s.Idx → Val e} (i : v.ty.Idx) (hi : i ∉ v.set) :
    v.write Val f w Finset.univ i = f i :=
  View.write_of_not_mem f w _ (by rwa [View.setOn_univ])

end Cert.GatherQuant
-- ==== Proof.Protocol.lean ====
/- The protocol between the devices, written down before the run.

   Every semaphore of a device is used for one round. By role (`Role`), who waits, who counts it up and what comes with it:

   `bar`     The device waits for 3; each neighbour signals 1 at its start, and hands over the places in ITS gathered
             array that this device's copies land in.
   `rcv e`   The device waits for the landing of copy `e`, sent by `src c e`; it gets the landing place holding its rows
             of the gathered array `XG`, and the rights `R e` to write into the table of the block's device.
   `snd e`   The device waits for its copy `e` to have left; it gets back the share of the source lent to the copy.
   `axr p`   The device waits for device `p`'s maximum; it gets row `p` of its table holding it.
   `axs p`   The device waits for its maximum to have left for `p`; it gets back the share of it lent to the copy.

   Order: a device signals, waits on `bar`, sends copies 0 to 2, waits on `rcv 0..2` sending 3 to 5 in between, waits on
   `rcv 3..5` sending 6 and 7 in between, waits on `rcv 6, 7` and `snd 0..7`, sends its maximum to everyone and waits on
   `axr` and `axs`. The levels `levR` follow that order, so no device waits while it owes something of a lower level. -/
module

public import proofs.«01_k».proof.Proof.Contents
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.GatherQuant

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The cells' rounds, with duties named by the direction they come from (or 0). -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- The runtime's barrier semaphore. -/
abbrev barS : Sem sig := (SemArray.scalar (sig.barrier 0 rfl) : Sems sig S_).sem
abbrev barCell (c : Dev nD) : GSem nD τ sig := ((c : Thread nD τ), .reg barS)
abbrev dCell (c : Dev nD) (k : Fin 37) : GSem nD τ sig := ((c : Thread nD τ), .dma k)

/-- The role of a semaphore. -/
def roleS (c : Dev nD) : SemLoc sig → Role
  | .dma k => roleD c k
  | .reg s => if s = barS then .bar else .idle
def roleG (g : GSem nD τ sig) : Role := if g.1.2 = .tc then roleS g.1.1 g.2 else .idle

theorem roleG_bar (c : Dev nD) : roleG (barCell c) = .bar := by
  unfold roleG roleS; rw [if_pos rfl]; exact if_pos rfl
theorem roleG_dma (c : Dev nD) (k : Fin 37) : roleG (dCell c k) = roleD c k := if_pos rfl

/-! ## Amounts -/

/-- What a whole block, half a block and a row of maxima count. -/
abbrev N512 : ℕ := (cc0_scratch0 : Ref sig .tc).dmaCredit S512x4096 .bf16
abbrev N256 : ℕ := (cc0_scratch0 : Ref sig .tc).dmaCredit S256x4096 .bf16
abbrev NA : ℕ := (cc0_scratch3 : Ref sig .tc).dmaCredit S1x128 .f32
/-- What copy `e` counts. -/
def NE (e : Fin 8) : ℕ := if e = 6 ∨ e = 7 then N256 else N512

theorem N512_pos : 0 < N512 := (gM.slice (Rect.unit (s := S4096x4096) ![0, 0] S512x4096.size (by decide)) (fun _ => rfl)).view.dmaCredit_pos (by decide)
theorem N256_pos : 0 < N256 := (gM.slice (Rect.unit (s := S4096x4096) ![0, 0] S256x4096.size (by decide)) (fun _ => rfl)).view.dmaCredit_pos (by decide)
theorem NA_pos : 0 < NA := (tM.slice (Rect.unit (s := S8x128) ![0, 0] S1x128.size (by decide)) (fun _ => rfl)).view.dmaCredit_pos (by decide)
theorem NE_pos (e : Fin 8) : 0 < NE e := by unfold NE; split; exacts [N256_pos, N512_pos]

def amountR : Role → ℕ
  | .idle => 1 | .bar => 1 | .snd e => NE e | .rcv e => NE e | .axs _ => NA | .axr _ => NA
theorem amountR_pos (r : Role) : 0 < amountR r := by
  cases r <;> first | exact Nat.one_pos | exact NE_pos _ | exact NA_pos

def dutiesR : Role → Finset (Fin 3)
  | .idle => ∅ | .bar => Finset.univ | _ => {0}

/-- The order in which semaphores are waited for. -/
def levE : Fin 8 → ℕ := ![2, 2, 2, 3, 3, 3, 4, 4]
def levR : Role → ℕ
  | .bar => 1 | .rcv e => levE e | .axr _ => 5 | _ => 0

/-! ## Buffers owned -/

/-- Part of a device's gathered array. -/
def gP (c : Dev nD) (S : Finset S4096x4096.Idx) (q : PosShare TreeShare) (f : S4096x4096.Idx → Elt F .bf16) : sProp 𝕄 :=
  ((c : Thread nD τ).loc cc0_scratch0) ↦[S]{q} f
/-- Part of a device's table of maxima. -/
def tP (c : Dev nD) (S : Finset S8x128.Idx) (f : S8x128.Idx → Elt F .f32) : sProp 𝕄 :=
  ((c : Thread nD τ).loc cc0_scratch3) ↦[S]{fullShare} f
/-- A share of a device's maximum. -/
def aP (c : Dev nD) (q : PosShare TreeShare) (f : S1x128.Idx → Elt F .f32) : sProp 𝕄 :=
  ((c : Thread nD τ).loc cc0_scratch2) ↦{q} f

/-- The right to write row `j` of `p`'s table. -/
def right (p j : Dev nD) : sProp 𝕄 := iprop(∃ f, tP (F := F) p (rows j.val 1) f)
def rights (p : Dev nD) (S : Finset (Dev nD)) : sProp 𝕄 := bigSep S fun j => right (F := F) p j

/-- The share of its source a copy takes along. -/
def shareE : Fin 8 → PosShare TreeShare :=
  ![fullShare.left.left, fullShare.left.right, fullShare.right.left, fullShare.left, fullShare.left, fullShare.right.left,
    fullShare.left, fullShare.left]
/-- The share of its maximum a copy takes along. -/
def shareA (p : Dev nD) : PosShare TreeShare := ShareLeaves.leaf 3 fullShare p

/-- The rows copy `e` moves from device `c`, and those it lands in on `c`. -/
def outR (c : Dev nD) (e : Fin 8) : Finset S4096x4096.Idx := rows (lo (sorg c e) e) (cnt e)
def inR (c : Dev nD) (e : Fin 8) : Finset S4096x4096.Idx := rows (lo (org c e) e) (cnt e)

/-- The places on the neighbour in direction `d` that copies of `c` land in. -/
def barPay (c : Dev nD) (d : Fin 3) : sProp 𝕄 :=
  bigSep (Finset.univ.filter fun e : Fin 8 => tdir c e = d) fun e => iprop(∃ f, gP (F := F) (nb c d) (outR c e) fullShare f)
def sndPay (c : Dev nD) (e : Fin 8) : sProp 𝕄 := gP c (outR c e) (shareE e) (XG m)
def rcvPay (c : Dev nD) (e : Fin 8) : sProp 𝕄 := iprop(gP c (inR c e) fullShare (XG m) ∗ rights (F := F) (org c e) (R e (org c e)))
def axsPay (c p : Dev nD) : sProp 𝕄 := aP c (shareA p) (AX m c)
def axrPay (c p : Dev nD) : sProp 𝕄 := tP c (rows p.val 1) (MX m)

def payR (c : Dev nD) (d : Fin 3) : Role → sProp 𝕄
  | .idle => iprop(emp) | .bar => barPay c d | .snd e => sndPay m c e | .rcv e => rcvPay m c e
  | .axs p => axsPay m c p | .axr p => axrPay m c p

instance payR_storable (c : Dev nD) (d : Fin 3) (r : Role) : BI.Storable (upEmb : UEmb _ 𝕄) (payR (F := F) m c d r) := by
  cases r <;> unfold payR <;> (try unfold barPay) <;> (try unfold sndPay) <;> (try unfold rcvPay rights right) <;> (try unfold axsPay aP)
    <;> (try unfold axrPay) <;> (try unfold gP) <;> (try unfold tP) <;> infer_instance

/-- The schedule: one round per cell, its duties, amounts and payloads by role. -/
def Rd : Rounds.Schedule (GSem nD τ sig) (Fin 3) 𝕄 where
  duties g r := if r = 0 then dutiesR (roleG g) else ∅
  unitless _ := False
  amount g _ _ := amountR (roleG g)
  payload g _ d := payR m g.1.1 d (roleG g)
  amount_pos g _ _ _ := amountR_pos _

instance Rd_storable (g : GSem nD τ sig) (r : ℕ) (d : Fin 3) : BI.Storable (upEmb : UEmb _ 𝕄) ((Rd (F := F) m).payload g r d) :=
  payR_storable m _ _ _

theorem duties_zero (g : GSem nD τ sig) : (Rd (F := F) m).duties g 0 = dutiesR (roleG g) := by
  show (if 0 = 0 then dutiesR (roleG g) else ∅) = _; exact if_pos rfl
theorem duties_later (g : GSem nD τ sig) : ∀ r, 1 ≤ r → (Rd (F := F) m).duties g r = ∅ :=
  fun r hr => if_neg (by omega)

theorem expect_one (g : GSem nD τ sig) {r : Role} (h : roleG g = r) (hd : dutiesR r = {0}) :
    (Rd (F := F) m).expect g 0 = amountR r := by
  unfold Schedule.expect Schedule.amountOf
  rw [duties_zero, h, hd, Finset.sum_singleton]; show amountR (roleG g) = _; rw [h]
theorem expect_bar (c : Dev nD) : (Rd (F := F) m).expect (barCell c) 0 = 3 := by
  unfold Schedule.expect Schedule.amountOf
  rw [duties_zero, roleG_bar]
  show ∑ _d : Fin 3, amountR (roleG (barCell c)) = 3
  rw [roleG_bar]; rfl

theorem rest_one (c : Dev nD) (sm : SemLoc sig) {r : Role} (h : roleG ((c : Thread nD τ), sm) = r) (hd : dutiesR r = {0}) :
    bigSep ((Rd (F := F) m).duties ((c : Thread nD τ), sm) 0 \ ∅) (fun d => (Rd (F := F) m).payload ((c : Thread nD τ), sm) 0 d)
      = payR m c 0 r := by
  rw [Finset.sdiff_empty, duties_zero, h, hd, bigSep_singleton]
  show payR m c 0 (roleG ((c : Thread nD τ), sm)) = _
  rw [h]
theorem rest_bar (c : Dev nD) :
    bigSep ((Rd (F := F) m).duties (barCell c) 0 \ ∅) (fun d => (Rd (F := F) m).payload (barCell c) 0 d)
      = bigSep Finset.univ (fun d => barPay (F := F) c d) := by
  rw [Finset.sdiff_empty, duties_zero, roleG_bar]
  show bigSep Finset.univ (fun d => payR m c d (roleG (barCell c))) = _
  rw [roleG_bar]; rfl

/-! ## What is owed -/

/-- What a device has to pay to others: the three signals, the eight copies and its maximum to each device. -/
abbrev Due : Type := Fin 3 ⊕ Fin 8 ⊕ Fin 8
/-- The cell a due is paid to, the duty it is there, and the amount. -/
def dueCell (c : Dev nD) : Due → GSem nD τ sig
  | .inl d => barCell (nb c d) | .inr (.inl e) => dCell (tgt c e) (rcvK (tgt c e) e) | .inr (.inr p) => dCell p (axrK c)
def dueDuty : Due → Fin 3
  | .inl d => back d | _ => 0
def dueAmt : Due → ℕ
  | .inl _ => 1 | .inr (.inl e) => NE e | .inr (.inr _) => NA

def tal (c : Dev nD) (o : Due) : CellTallies nD τ sig Unit := tallyAt (dueCell c o) () (dueAmt o)
def OB (c : Dev nD) (B : Finset (Fin 3)) : CellTallies nD τ sig Unit := ∑ d ∈ B, tal c (.inl d)
def OC (c : Dev nD) (E : Finset (Fin 8)) : CellTallies nD τ sig Unit := ∑ e ∈ E, tal c (.inr (.inl e))
def OM (c : Dev nD) (P : Finset (Fin 8)) : CellTallies nD τ sig Unit := ∑ p ∈ P, tal c (.inr (.inr p))
/-- What a device owes with the signals `B`, the copies `E` and the maxima `P` outstanding. -/
def owed (c : Dev nD) (B : Finset (Fin 3)) (E P : Finset (Fin 8)) : CellTallies nD τ sig Unit := OB c B + OC c E + OM c P
def Ow (c : Dev nD) (B : Finset (Fin 3)) (E P : Finset (Fin 8)) : sProp 𝕄 :=
  iprop(∃ W, owes (c : Thread nD τ) (owed c B E P) W)

theorem OB_insert (c : Dev nD) {d : Fin 3} {B : Finset (Fin 3)} (h : d ∉ B) (E P : Finset (Fin 8)) :
    owed c (insert d B) E P = owed c B E P + tal c (.inl d) := by
  unfold owed OB; rw [Finset.sum_insert h]; ac_rfl
theorem OC_insert (c : Dev nD) {e : Fin 8} {E : Finset (Fin 8)} (h : e ∉ E) (B : Finset (Fin 3)) (P : Finset (Fin 8)) :
    owed c B (insert e E) P = owed c B E P + tal c (.inr (.inl e)) := by
  unfold owed OC; rw [Finset.sum_insert h]; ac_rfl
theorem OM_insert (c : Dev nD) {p : Fin 8} {P : Finset (Fin 8)} (h : p ∉ P) (B : Finset (Fin 3)) (E : Finset (Fin 8)) :
    owed c B E (insert p P) = owed c B E P + tal c (.inr (.inr p)) := by
  unfold owed OM; rw [Finset.sum_insert h]; ac_rfl

/-! ## Levels -/

def L (g : GSem nD τ sig) : Finset Unit := if g.1.2 = .tc then {()} else ∅
def lv (g : GSem nD τ sig) (_ : Unit) : ℕ := levR (roleG g)

theorem L_of_ne (g : GSem nD τ sig) (h : g.1.2 ≠ .tc) : L g = ∅ := if_neg h
theorem L_tc (c : Dev nD) (sm : SemLoc sig) : L ((c : Thread nD τ), sm) = {()} := if_pos rfl

theorem tal_pos {c : Dev nD} {o : Due} {g : GSem nD τ sig} {u : Unit} (h : 0 < tal c o g u) : g = dueCell c o := by
  unfold tal at h; rw [tallyAt_apply] at h
  by_contra hn
  rw [if_neg fun h' => hn h'.1] at h
  exact Nat.lt_irrefl 0 h

theorem sum_pos {ι : Type} [DecidableEq ι] {f : ι → CellTallies nD τ sig Unit} {S : Finset ι} {g : GSem nD τ sig} {u : Unit}
    (h : 0 < (∑ i ∈ S, f i) g u) : ∃ i ∈ S, 0 < f i g u := by
  rw [Finset.sum_apply, Finsupp.finset_sum_apply] at h
  by_contra hn
  refine absurd (Finset.sum_eq_zero fun i hi => ?_) h.ne'
  by_contra h0
  exact hn ⟨i, hi, Nat.pos_of_ne_zero h0⟩

theorem owed_pos {c : Dev nD} {B : Finset (Fin 3)} {E P : Finset (Fin 8)} {g : GSem nD τ sig} {u : Unit}
    (h : 0 < owed c B E P g u) :
    (∃ d ∈ B, g = dueCell c (.inl d)) ∨ (∃ e ∈ E, g = dueCell c (.inr (.inl e))) ∨ ∃ p ∈ P, g = dueCell c (.inr (.inr p)) := by
  unfold owed at h
  rw [Pi.add_apply, Finsupp.add_apply, Pi.add_apply, Finsupp.add_apply] at h
  rcases Nat.eq_zero_or_pos (OB c B g u) with hB | hB
  · rcases Nat.eq_zero_or_pos (OC c E g u) with hC | hC
    · obtain ⟨p, hp, h⟩ := sum_pos (f := fun p => tal c (.inr (.inr p))) (S := P) (g := g) (u := u) (by unfold OM at h; omega)
      exact .inr (.inr ⟨p, hp, tal_pos h⟩)
    · obtain ⟨e, he, h⟩ := sum_pos (f := fun e => tal c (.inr (.inl e))) (S := E) hC
      exact .inr (.inl ⟨e, he, tal_pos h⟩)
  · obtain ⟨d, hd, h⟩ := sum_pos (f := fun d => tal c (.inl d)) (S := B) hB
    exact .inl ⟨d, hd, tal_pos h⟩

theorem lev_due (c : Dev nD) :
    (∀ d, levR (roleG (dueCell c (.inl d))) = 1) ∧ (∀ e, levR (roleG (dueCell c (.inr (.inl e)))) = levE e)
    ∧ ∀ p, p ≠ c → levR (roleG (dueCell c (.inr (.inr p)))) = 5 := by
  refine ⟨fun d => ?_, fun e => ?_, fun p hp => ?_⟩
  · show levR (roleG (barCell _)) = 1; rw [roleG_bar]; rfl
  · show levR (roleG (dCell _ _)) = _; rw [roleG_dma, roleD_rcv]; rfl
  · show levR (roleG (dCell _ _)) = _; rw [roleG_dma, roleD_axr p c hp.symm]; rfl

/-- A device may wait on a semaphore while everything it owes is of a higher level. -/
theorem mayWait (c : Dev nD) (sm : SemLoc sig) (B : Finset (Fin 3)) (E P : Finset (Fin 8)) (hPc : c ∉ P)
    (hB : ∀ d ∈ B, levR (roleG ((c : Thread nD τ), sm)) < 1) (hE : ∀ e ∈ E, levR (roleG ((c : Thread nD τ), sm)) < levE e)
    (hP : ∀ p ∈ P, levR (roleG ((c : Thread nD τ), sm)) < 5) :
    (levAts L lv : sProp 𝕄) ⊢ MayWait (c : Thread nD τ) sm () (owed c B E P) :=
  MayOwe.of_cut (L := L) (lev := lv) (levR (roleG ((c : Thread nD τ), sm)))
    (fun p hp => by rw [Finset.mem_singleton.mp hp, L_tc]; exact Finset.mem_singleton_self _)
    (fun g u hg => by
      rcases owed_pos hg with ⟨d, _, rfl⟩ | ⟨e, _, rfl⟩ | ⟨p, _, rfl⟩ <;> exact Finset.mem_singleton_self _)
    (fun p hp => by rw [Finset.mem_singleton.mp hp]; exact le_refl _)
    (fun g u hg => by
      rcases owed_pos hg with ⟨d, hd, rfl⟩ | ⟨e, he, rfl⟩ | ⟨p, hp, rfl⟩
      · exact lt_of_lt_of_eq (hB d hd) ((lev_due c).1 d).symm
      · exact lt_of_lt_of_eq (hE e he) ((lev_due c).2.1 e).symm
      · exact lt_of_lt_of_eq (hP p hp) ((lev_due c).2.2 p fun h => hPc (h ▸ hp)).symm)

/-! ## The records every device holds -/

/-- The cells: every device's transfer semaphores but the pipeline's three, and its barrier semaphore. -/
def dk (k : Fin 34) : Fin 37 := ⟨3 + k.val, by omega⟩
def csem : Option (Fin 34) → SemLoc sig
  | none => .reg barS | some k => .dma (dk k)
def kcell (ck : Dev nD × Option (Fin 34)) : GSem nD τ sig := ((ck.1 : Thread nD τ), csem ck.2)

/-- A cell is in use, under some name. -/
def cellOK (g : GSem nD τ sig) : sProp 𝕄 := iprop((∃ κ : ℕ, cellInv ER (Rd m) κ g) ∗ reached ER g 0)
instance cellOK_persistent (g : GSem nD τ sig) : BI.Persistent (cellOK m g) := by unfold cellOK; infer_instance
/-- Every cell is in use; the levels. -/
def env : sProp 𝕄 := iprop((bigSep Finset.univ fun ck : Dev nD × Option (Fin 34) => cellOK m (kcell ck)) ∗ levAts L lv)
instance env_persistent : BI.Persistent (env (F := F) m) := by unfold env; infer_instance

theorem env_cell (ck : Dev nD × Option (Fin 34)) : env m ⊢ cellOK m (kcell ck) := by
  unfold env
  have h : (bigSep Finset.univ fun ck : Dev nD × Option (Fin 34) => (cellOK m (kcell ck) : sProp 𝕄)) ⊢ cellOK m (kcell ck) :=
    bigSep_elim (Finset.mem_univ ck)
  iintro ⟨H, -⟩; iapply h; iexact H
theorem env_bar (c : Dev nD) : env m ⊢ cellOK m (barCell c) := env_cell m (c, none)
theorem env_dma (c : Dev nD) (k : Fin 37) (h : 3 ≤ k.val) : env m ⊢ cellOK m (dCell c k) := by
  have e : kcell (c, some ⟨k.val - 3, by omega⟩) = dCell c k := by
    unfold kcell csem dk
    exact congrArg (fun k : Fin 37 => dCell c k) (Fin.ext (by show 3 + (k.val - 3) = k.val; omega))
  rw [← e]; exact env_cell m _
theorem env_lev : env m ⊢ (levAts L lv : sProp 𝕄) := by unfold env; iintro ⟨-, H⟩; iexact H

end Cert.GatherQuant
-- ==== Proof.Steps.lean ====
/- One step of the protocol at a time: a signal, a copy of a block, a copy of the maximum, a wait. Each takes the
   resources the protocol names for it and gives back those it names. -/
module

public import proofs.«01_k».proof.Proof.Protocol

@[expose] public section

noncomputable section

namespace Cert.GatherQuant

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The run of a piece of the body on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Tokens and places -/

/-- The token of a due. -/
def tok (c : Dev nD) (o : Due) : sProp 𝕄 := dutyTok ER (dueCell c o) 0 (dueDuty o)
/-- The token of one of the device's own cells. -/
def ownTok (c : Dev nD) (k : Fin 37) : sProp 𝕄 := dutyTok ER (dCell c k) 0 (0 : Fin 3)
/-- The device is before the round of one of its cells. -/
def pos (c : Dev nD) (k : Fin 37) : sProp 𝕄 := atPos ER (dCell c k) 0 (∅ : Finset (Fin 3)) 0
/-- The device may wait for `n` on one of its cells. -/
def credK (c : Dev nD) (k : Fin 37) (n : ℕ) : sProp 𝕄 := cred (tallyAt (dCell c k) () n)
/-- One of the device's cells is done with. -/
def zeroK (c : Dev nD) (k : Fin 37) : sProp 𝕄 := semVal (dCell c k) 0

theorem sndK_ge (c : Dev nD) (e : Fin 8) : 3 ≤ (sndK c e).val := by revert c e; decide +kernel
theorem rcvK_ge (c : Dev nD) (e : Fin 8) : 3 ≤ (rcvK c e).val := by revert c e; decide +kernel
theorem axsK_ge (p : Dev nD) : 3 ≤ (axsK p).val := by revert p; decide +kernel
theorem axrK_ge (p : Dev nD) : 3 ≤ (axrK p).val := by revert p; decide +kernel

/-! ## Signals -/

theorem amount_bar (n : Dev nD) (r : ℕ) (d : Fin 3) : (Rd (F := F) m).amount (barCell n) r d = 1 := by
  show amountR (roleG (barCell n)) = 1
  rw [roleG_bar]; rfl

theorem payload_bar (n : Dev nD) (d : Fin 3) : (Rd m).payload (barCell n) 0 d = barPay (F := F) n d := by
  show payR m n d (roleG (barCell n)) = _
  rw [roleG_bar]; rfl

/-- The places in its own gathered array a device hands to its neighbour in direction `d`. -/
def give (c : Dev nD) (d : Fin 3) : sProp 𝕄 :=
  bigSep (Finset.univ.filter fun e : Fin 8 => sdir c e = d) fun e => iprop(∃ f, gP (F := F) c (inR c e) fullShare f)

theorem give_dirs : ∀ (c : Dev nD) (d : Fin 3),
    (Finset.univ.filter fun e : Fin 8 => tdir (nb c d) e = back d) = Finset.univ.filter fun e : Fin 8 => sdir c e = d := by
  decide +kernel
theorem give_org : ∀ (c : Dev nD) (d : Fin 3) (e : Fin 8), sdir c e = d → sorg (nb c d) e = org c e := by decide +kernel

theorem give_eq (c : Dev nD) (d : Fin 3) : give (F := F) c d = barPay (F := F) (nb c d) (back d) := by
  unfold give barPay
  rw [give_dirs, nb_back]
  refine bigSep_congr fun e he => ?_
  unfold inR outR
  rw [give_org c d e (Finset.mem_filter.mp he).2]

theorem step_signal (c n : Dev nD) (d : Fin 3) (hn : n = nb c d) {B : Finset (Fin 3)} (hB : d ∉ B) (E P : Finset (Fin 8))
    {α : Type} {Q : α → sProp 𝕄} {k : PUnit → Prog (TpuEff nD τ sig (Elt F) Λ₀ .tc) α} :
    iprop(env m ∗ Ow c (insert d B) E P ∗ tok c (.inl d) ∗ give c d)
      ⊢ iprop((Ow c B E P -∗ WP c (k ⟨⟩) Q) -∗ WP c (.op (.semSignal (n : Thread nD τ) barS (1#32).toInt) k) Q) := by
  subst hn
  unfold Ow tok
  iintro ⟨#He, ⟨%W, HO⟩, Ht, Hg⟩ Hk
  ihave #Hc := (env_bar m (nb c d)) $$ He
  unfold cellOK
  icases Hc with ⟨⟨%κ, #Hi⟩, #Hr⟩
  iapply (Rounds.wp_signal 𝒱₀ ER (Rd m) (c : Thread nD τ) none (dst := (nb c d : Thread nD τ)) (κ := κ)
      (d := back d) (by rw [duties_zero, roleG_bar]; exact Finset.mem_univ _)
      ((amount_bar m (nb c d) 0 (back d)).trans (show (1 : ℕ) = _ from rfl)) ()
      (owed c B E P) (OB_insert c hB E P)) $$ [HO Ht Hg]
  · isplitr; · iexact Hi
    isplitl [HO]; · iexact HO
    isplitl [Ht]; · iexact Ht
    isplitl [Hg]
    · ihave Hp := (Entails.of_eq ((give_eq c d).trans (payload_bar m (nb c d) (back d)).symm)) $$ Hg
      iexact Hp
    iexact Hr
  iintro HO
  iapply Hk
  iexists W; iexact HO

/-! ## Waits -/

/-- A wait on one of the device's own transfer cells, which then is done with. -/
theorem step_wait (c : Dev nD) {k' : DmaSem sig} (k₀ : Fin 37) (hk : k' = k₀) (hk3 : 3 ≤ k₀.val) (r : Role) (hr : roleD c k₀ = r)
    (hd : dutiesR r = {0}) {E P : Finset (Fin 8)} (hPc : c ∉ P) (hE : ∀ e ∈ E, levR r < levE e) (hP : ∀ p ∈ P, levR r < 5)
    {sp sp' : Space} {s s' : Shape} {e e' : EltTy}
    {src : Memref sig .tc sp' s' e'} {dst : Memref sig .tc sp s e} {hsrc : src.view.WordExact} {hdst : dst.view.WordExact}
    (hN : dst.view.dmaCredit = amountR r)
    {α : Type} {Q : α → sProp 𝕄} {k : PUnit → Prog (TpuEff nD τ sig (Elt F) Λ₀ .tc) α} :
    iprop(env m ∗ Ow c ∅ E P ∗ credK c k₀ (amountR r) ∗ pos c k₀)
      ⊢ iprop(((Ow c ∅ E P ∗ payR m c 0 r ∗ zeroK c k₀) -∗ WP c (k ⟨⟩) Q)
          -∗ WP c (.op (.waitDma2 k' src dst hsrc hdst) k) Q) := by
  subst hk
  unfold Ow credK pos zeroK
  iintro ⟨#He, ⟨%W, HO⟩, Hcr, Hat⟩ Hk
  ihave #Hc := (env_dma m c k' hk3) $$ He
  ihave #Hlev := (env_lev m) $$ He
  unfold cellOK
  icases Hc with ⟨⟨%κ, #Hi⟩, #Hr⟩
  rw [← hN]
  iapply (Rounds.wp_wait_rest_token 𝒱₀ ER (Rd m) (c : Thread nD τ) none (κ := κ)
      (wpE_waitDma2_eq 𝒱₀ (c : Thread nD τ) none Set.univ) (Set.mem_univ _) () (O := owed c ∅ E P) (W := W) (R := 0) (m := 0) (T := ∅)
      (by rw [Nat.zero_add, expect_one m (dCell c k') ((roleG_dma c k').trans hr) hd, hN])) $$ [Hcr HO Hat]
  · isplitr; · iexact Hi
    isplitl [Hcr]; · iexact Hcr
    isplitl [HO]; · iexact HO
    isplitr
    · iapply (mayWait c (.dma k') ∅ E P hPc (fun d h => absurd h (Finset.notMem_empty d))
        (by rw [show roleG ((c : Thread nD τ), .dma k') = r from (roleG_dma c k').trans hr]; exact hE)
        (by rw [show roleG ((c : Thread nD τ), .dma k') = r from (roleG_dma c k').trans hr]; exact hP))
      iexact Hlev
    iexact Hat
  iintro ⟨HO, Hat, -, Hpay⟩
  ihave Hp := (Entails.of_eq (rest_one m c (.dma k') ((roleG_dma c k').trans hr) hd)) $$ Hpay
  imod (Rounds.cell_close ER (Rd m) (Set.mem_univ κ) (fun h => h) (R := 0 + 1) (duties_later m (dCell c k'))) $$ [Hat] with Hz
  · isplitr; · iexact Hi
    iexact Hat
  iapply Hk
  isplitl [HO]; · iexists _; iexact HO
  isplitl [Hp] <;> iassumption

/-- The three neighbours' payloads are one place for each of the device's eight copies. -/
theorem barPays (c : Dev nD) : (bigSep Finset.univ fun d => barPay (F := F) c d)
    ⊢ bigSep Finset.univ fun e : Fin 8 => iprop(∃ f, gP (F := F) (tgt c e) (outR c e) fullShare f) := by
  rw [show (Finset.univ : Finset (Fin 8)) = Finset.univ.biUnion fun d : Fin 3 => Finset.univ.filter fun e => tdir c e = d from by
    ext e; simp]
  refine BI.Entails.trans (bigSep_mono fun d _ => ?_) (bigSep_biUnion _ _)
  unfold barPay
  refine Entails.of_eq (bigSep_congr fun e he => ?_)
  rw [← (Finset.mem_filter.mp he).2]
  rfl

/-- The wait for the three neighbours. -/
theorem step_wait_bar (c : Dev nD) {E P : Finset (Fin 8)} (hPc : c ∉ P)
    {α : Type} {Q : α → sProp 𝕄} {k : PUnit → Prog (TpuEff nD τ sig (Elt F) Λ₀ .tc) α} :
    iprop(env m ∗ Ow c ∅ E P ∗ cred (tallyAt (barCell c) () 3) ∗ atPos ER (barCell c) 0 (∅ : Finset (Fin 3)) 0)
      ⊢ iprop(((Ow c ∅ E P ∗ (bigSep Finset.univ fun e : Fin 8 => iprop(∃ f, gP (F := F) (tgt c e) (outR c e) fullShare f))
            ∗ semVal (barCell c) 0) -∗ WP c (k ⟨⟩) Q)
          -∗ WP c (.op (.semWait barS (3#32).toInt) k) Q) := by
  unfold Ow
  iintro ⟨#He, ⟨%W, HO⟩, Hcr, Hat⟩ Hk
  ihave #Hc := (env_bar m c) $$ He
  ihave #Hlev := (env_lev m) $$ He
  unfold cellOK
  icases Hc with ⟨⟨%κ, #Hi⟩, #Hr⟩
  iapply (Rounds.wp_wait_rest_token 𝒱₀ ER (Rd m) (c : Thread nD τ) none (κ := κ)
      (wpE_semWait_eq 𝒱₀ (c : Thread nD τ) none Set.univ) (Set.mem_univ _) () (O := owed c ∅ E P) (W := W) (R := 0) (m := 0) (T := ∅)
      (by rw [expect_bar]; decide)) $$ [Hcr HO Hat]
  · isplitr; · iexact Hi
    isplitl [Hcr]; · iexact Hcr
    isplitl [HO]; · iexact HO
    isplitr
    · iapply (mayWait c (.reg barS) ∅ E P hPc (fun d h => absurd h (Finset.notMem_empty d))
        (fun e _ => by rw [show roleG ((c : Thread nD τ), .reg barS) = .bar from roleG_bar c]; exact (show ∀ e : Fin 8, levR .bar < levE e from by decide) e)
        (fun p _ => by rw [show roleG ((c : Thread nD τ), .reg barS) = .bar from roleG_bar c]; decide))
      iexact Hlev
    iexact Hat
  iintro ⟨HO, Hat, -, Hpay⟩
  ihave Hp := (Entails.of_eq (rest_bar m c)) $$ Hpay
  imod (Rounds.cell_close ER (Rd m) (Set.mem_univ κ) (fun h => h) (R := 0 + 1) (duties_later m (barCell c))) $$ [Hat] with Hz
  · isplitr; · iexact Hi
    iexact Hat
  iapply Hk
  isplitl [HO]; · iexists _; iexact HO
  isplitl [Hp]
  · iapply (barPays (F := F) c)
    iexact Hp
  iexact Hz

/-! ## Copies of blocks -/

/-- What a device needs of its own to send copy `e`. -/
def cp0 (c : Dev nD) (e : Fin 8) : sProp 𝕄 := iprop(tok c (.inr (.inl e)) ∗ ownTok c (sndK c e) ∗ pos c (sndK c e))
/-- The place on its neighbour that copy `e` lands in. -/
def land (c : Dev nD) (e : Fin 8) : sProp 𝕄 := iprop(∃ f, gP (F := F) (tgt c e) (outR c e) fullShare f)
/-- What a device needs to wait for the landing of copy `e`. -/
def rc0 (c : Dev nD) (e : Fin 8) : sProp 𝕄 := iprop(credK c (rcvK c e) (NE e) ∗ pos c (rcvK c e))
/-- What a device needs to wait for its copy `e` to have left. -/
def sent (c : Dev nD) (e : Fin 8) : sProp 𝕄 := iprop(credK c (sndK c e) (NE e) ∗ pos c (sndK c e))

/-- Rows of the gathered array as a transfer names them. -/
abbrev gRows (off sz : Fin 2 → ℕ) (inb : ∀ x, off x + sz x ≤ S4096x4096.size x) :
    Memref sig .tc .vmem (Rect.unit (s := S4096x4096) off sz inb).shape .bf16 :=
  gM.slice (Rect.unit (s := S4096x4096) off sz inb) (fun _ => rfl)

theorem gRows_set {off sz : Fin 2 → ℕ} {inb : ∀ x, off x + sz x ≤ S4096x4096.size x} {l n : ℕ} (hsz : sz = ![n, 4096])
    (hoff : off = ![l, 0]) : (gRows off sz inb).view.set = rows l n := by
  subst hsz
  exact (View.set_slice_whole _ _).trans (rect_set hoff inb)

theorem credit_rows {off sz : Fin 2 → ℕ} {inb : ∀ x, off x + sz x ≤ S4096x4096.size x} {e : Fin 8} (hsz : sz = ![cnt e, 4096]) :
    (gRows off sz inb).view.dmaCredit = NE e := by
  subst hsz
  show (cc0_scratch0 : Ref sig .tc).dmaCredit ⟨2, ![cnt e, 4096]⟩ .bf16 = NE e
  unfold cnt NE
  split <;> rfl

/-- Sending copy `e`: what it takes along comes back at the wait for its having left, or arrives with it. -/
theorem step_send (c n : Dev nD) (e : Fin 8) (hn : n = tgt c e) {kS kR : DmaSem sig} (hS : kS = sndK c e)
    (hR : kR = rcvK (tgt c e) e) {E₀ : Finset (Fin 8)} (E : Finset (Fin 8)) (P : Finset (Fin 8)) (he : e ∉ E ∧ E₀ = insert e E)
    {off sz : Fin 2 → ℕ} {inb inb' : ∀ x, off x + sz x ≤ S4096x4096.size x} (hsz : sz = ![cnt e, 4096])
    (hoff : off = ![lo (sorg c e) e, 0])
    {hsc : (gRows off sz inb' : Memref sig (Dev.tc n : Thread nD τ).2.kind .vmem _ .bf16).view.ref.isScScratch = false}
    {hsrc : (gRows off sz inb).view.WordExact} {hdst : (gRows off sz inb').view.WordExact}
    {hsem : DmaTarget.Typed .vmem (.dma kR) (.remote (Dev.tc n : Thread nD τ) (gRows off sz inb') (.dma kS) hsc)}
    {α : Type} {Q : α → sProp 𝕄} {k : PUnit → Prog (TpuEff nD τ sig (Elt F) Λ₀ .tc) α} :
    iprop(env m ∗ Ow c ∅ E₀ P ∗ cp0 c e ∗ land c e ∗ gP c (outR c e) (shareE e) (XG m)
        ∗ rights (F := F) (sorg c e) (R e (sorg c e)))
      ⊢ iprop(((Ow c ∅ E P ∗ sent c e) -∗ WP c (k ⟨⟩) Q)
          -∗ WP c (.op (.enqueueDma (gRows off sz inb) (.remote (Dev.tc n : Thread nD τ) (gRows off sz inb') (.dma kS) hsc)
              (.dma kR) hsrc hdst hsem) k) Q) := by
  subst hn hS hR
  obtain ⟨he, rfl⟩ := he
  have hset : (gRows off sz inb).view.set = outR c e := gRows_set hsz hoff
  have hN : (gRows off sz inb').view.dmaCredit = NE e := credit_rows hsz
  have hpay₁ : ((gRows off sz inb).view.loc (c : Thread nD τ) ↦[(gRows off sz inb).view.set]{shareE e} (XG m))
      ⊢ (Rd m).payload (dCell c (sndK c e)) 0 (0 : Fin 3) := by
    rw [hset]
    refine Entails.of_eq ?_
    show _ = payR m c 0 (roleG (dCell c (sndK c e)))
    rw [roleG_dma, roleD_snd]; rfl
  have hpay₂ : ∀ fd, iprop(((gRows off sz inb').view.loc (tgt c e : Thread nD τ) ↦[(gRows off sz inb').view.set]{fullShare}
        ((gRows off sz inb').view.write (Elt F) fd ((gRows off sz inb).view.read (Elt F) (XG m)) Finset.univ))
          ∗ rights (F := F) (sorg c e) (R e (sorg c e)))
      ⊢ (Rd m).payload (dCell (tgt c e) (rcvK (tgt c e) e)) 0 (0 : Fin 3) := by
    intro fd
    rw [show (Rd m).payload (dCell (tgt c e) (rcvK (tgt c e) e)) 0 (0 : Fin 3)
        = iprop(gP (tgt c e) (inR (tgt c e) e) fullShare (XG m) ∗ rights (F := F) (org (tgt c e) e) (R e (org (tgt c e) e))) from by
      show payR m (tgt c e) 0 (roleG (dCell (tgt c e) (rcvK (tgt c e) e))) = _
      rw [roleG_dma, roleD_rcv]; rfl]
    unfold inR
    rw [org_tgt]
    refine sep_mono_left (Entails.of_eq ?_)
    rw [gRows_set (l := lo (sorg c e) e) (n := cnt e) hsz hoff]
    refine pointsTo_congr fun i hi => ?_
    refine write_of_read (gRows off sz inb').view fd (XG m) rfl i ?_
    rw [gRows_set (l := lo (sorg c e) e) (n := cnt e) hsz hoff]; exact hi
  have hs : gP c (outR c e) (shareE e) (XG m)
      = ((gRows off sz inb).view.loc (c : Thread nD τ) ↦[(gRows off sz inb).view.set]{shareE e} (XG m)) := by rw [hset]; rfl
  have hl : ∀ fd : S4096x4096.Idx → Elt F .bf16, gP (tgt c e) (outR c e) fullShare fd
      = ((gRows off sz inb').view.loc (tgt c e : Thread nD τ) ↦[(gRows off sz inb').view.set]{fullShare} fd) := by
    intro fd
    rw [gRows_set (l := lo (sorg c e) e) (n := cnt e) hsz hoff]; rfl
  unfold Ow cp0 land sent tok ownTok pos credK
  iintro ⟨#He, ⟨%W, HO⟩, ⟨Ht, Hot, Hpos⟩, ⟨%fd, Hl⟩, Hs, Hr⟩ Hk
  ihave #Hc := (env_dma m c (sndK c e) (sndK_ge c e)) $$ He
  ihave #Hd := (env_dma m (tgt c e) (rcvK (tgt c e) e) (rcvK_ge _ e)) $$ He
  unfold cellOK
  icases Hc with ⟨⟨%κ₁, #Hi₁⟩, #Hr₁⟩
  icases Hd with ⟨⟨%κ₂, #Hi₂⟩, #Hr₂⟩
  iapply (Rounds.wp_send_pointsTo_with 𝒱₀ ER (Rd m) (c : Thread nD τ) none (κ₁ := κ₁) (κ₂ := κ₂) (r₁ := 0) (r₂ := 0)
      (d₁ := (0 : Fin 3)) (d₂ := (0 : Fin 3)) (fs := XG m) (fd := fd) (q := shareE e)
      (c' := (tgt c e : Thread nD τ)) (src := gRows off sz inb) (dst := gRows off sz inb') (sS := .dma (sndK c e))
      (sem := .dma (rcvK (tgt c e) e))
      (by rw [duties_zero, roleG_dma, roleD_snd]; exact Finset.mem_singleton_self _)
      (by rw [duties_zero, roleG_dma, roleD_rcv]; exact Finset.mem_singleton_self _)
      () () (NE e) hN
      (by show amountR (roleG (dCell c (sndK c e))) = NE e; rw [roleG_dma, roleD_snd]; rfl)
      (by show amountR (roleG (dCell (tgt c e) (rcvK (tgt c e) e))) = NE e; rw [roleG_dma, roleD_rcv]; rfl)
      (owed c ∅ E P) (OC_insert c he ∅ P) hpay₁ (hpay₂ fd)) $$ [HO Ht Hot Hl Hs Hr]
  · isplitr; · iexact Hi₁
    isplitr; · iexact Hi₂
    isplitl [Hs]; · iapply (Entails.of_eq hs); iexact Hs
    isplitl [Hl Hr]
    · isplitl [Hl]; · iapply (Entails.of_eq (hl fd)); iexact Hl
      iexact Hr
    isplitl [HO]; · iexact HO
    isplitl [Hot]; · iexact Hot
    isplitr; · iexact Hr₁
    isplitl [Ht]; · iexact Ht
    iexact Hr₂
  iintro ⟨Hcr, HO⟩
  iapply Hk
  isplitl [HO]; · iexists W; iexact HO
  isplitl [Hcr] <;> iassumption

theorem levR_rcv : ∀ e : Fin 8, levR (.rcv e) < 5 := by decide

/-- The wait for copy `e` to land: its rows, and the rights that came along. -/
theorem step_recv (c : Dev nD) (e : Fin 8) {kR : DmaSem sig} (hR : kR = rcvK c e) {E P : Finset (Fin 8)} (hPc : c ∉ P)
    (hE : ∀ e' ∈ E, levE e < levE e') {off sz : Fin 2 → ℕ} {inb inb' : ∀ x, off x + sz x ≤ S4096x4096.size x}
    (hsz : sz = ![cnt e, 4096]) {hsrc : (gRows off sz inb).view.WordExact} {hdst : (gRows off sz inb').view.WordExact}
    {α : Type} {Q : α → sProp 𝕄} {k : PUnit → Prog (TpuEff nD τ sig (Elt F) Λ₀ .tc) α} :
    iprop(env m ∗ Ow c ∅ E P ∗ rc0 c e)
      ⊢ iprop(((Ow c ∅ E P ∗ gP c (inR c e) fullShare (XG m) ∗ rights (F := F) (org c e) (R e (org c e)) ∗ zeroK c (rcvK c e))
            -∗ WP c (k ⟨⟩) Q)
          -∗ WP c (.op (.waitDma2 kR (gRows off sz inb) (gRows off sz inb') hsrc hdst) k) Q) := by
  unfold rc0
  iintro ⟨He, HO, Hc, Hp⟩ Hk
  iapply (step_wait m c (rcvK c e) hR (rcvK_ge c e) (.rcv e) (roleD_rcv c e) rfl hPc hE (fun p _ => levR_rcv e)
    (credit_rows hsz)) $$ [He HO Hc Hp]
  · isplitl [He]; · iexact He
    isplitl [HO]; · iexact HO
    isplitl [Hc]; · iexact Hc
    iexact Hp
  unfold payR rcvPay
  iintro ⟨HO, ⟨Hg, Hr⟩, Hz⟩
  iapply Hk
  isplitl [HO]; · iexact HO
  isplitl [Hg]; · iexact Hg
  isplitl [Hr] <;> iassumption

/-- The wait for copy `e` to have left: the share of its source. -/
theorem step_sent (c : Dev nD) (e : Fin 8) {kS : DmaSem sig} (hS : kS = sndK c e) {P : Finset (Fin 8)} (hPc : c ∉ P)
    {off sz : Fin 2 → ℕ} {inb inb' : ∀ x, off x + sz x ≤ S4096x4096.size x}
    (hsz : sz = ![cnt e, 4096]) {hsrc : (gRows off sz inb).view.WordExact} {hdst : (gRows off sz inb').view.WordExact}
    {α : Type} {Q : α → sProp 𝕄} {k : PUnit → Prog (TpuEff nD τ sig (Elt F) Λ₀ .tc) α} :
    iprop(env m ∗ Ow c ∅ ∅ P ∗ sent c e)
      ⊢ iprop(((Ow c ∅ ∅ P ∗ gP c (outR c e) (shareE e) (XG m) ∗ zeroK c (sndK c e)) -∗ WP c (k ⟨⟩) Q)
          -∗ WP c (.op (.waitDma2 kS (gRows off sz inb) (gRows off sz inb') hsrc hdst) k) Q) := by
  unfold sent
  iintro ⟨He, HO, Hc, Hp⟩ Hk
  iapply (step_wait m c (sndK c e) hS (sndK_ge c e) (.snd e) (roleD_snd c e) rfl hPc
    (fun e h => absurd h (Finset.notMem_empty e)) (fun p _ => (by decide : (0 : ℕ) < 5)) (credit_rows hsz)) $$ [He HO Hc Hp]
  · isplitl [He]; · iexact He
    isplitl [HO]; · iexact HO
    isplitl [Hc]; · iexact Hc
    iexact Hp
  unfold payR sndPay
  iintro ⟨HO, Hg, Hz⟩
  iapply Hk
  isplitl [HO]; · iexact HO
  isplitl [Hg] <;> iassumption

/-! ## Loads and stores -/

/-- A device's copy of its block of the second argument; its product; staging buffers. -/
def vP (c : Dev nD) (f : S4096x256.Idx → Elt F .bf16) : sProp 𝕄 := ((c : Thread nD τ).loc cc0_scratch1) ↦{fullShare} f
def oP (c : Dev nD) (S : Finset S4096x256.Idx) (f : S4096x256.Idx → Elt F .f32) : sProp 𝕄 :=
  ((c : Thread nD τ).loc cc0_stg2_0) ↦[S]{fullShare} f
def xP (c : Dev nD) (f : S512x4096.Idx → Elt F .bf16) : sProp 𝕄 := ((c : Thread nD τ).loc cc0_stg0_0) ↦{fullShare} f
def wP (c : Dev nD) (f : S4096x256.Idx → Elt F .bf16) : sProp 𝕄 := ((c : Thread nD τ).loc cc0_stg1_0) ↦{fullShare} f

/-- The rows of device `s`'s block. -/
def blk {b : ℕ} (s : Dev nD) : Finset (Shape.Idx ⟨2, ![4096, b]⟩) := rows (512 * s.val) 512
/-- A block of the result still to be written, and written. -/
def o0 (c s : Dev nD) : sProp 𝕄 := iprop(∃ f, oP (F := F) c (blk s) f)
def o1 (c s : Dev nD) : sProp 𝕄 := oP c (blk s) (Y m c)

theorem hz2 : (![0, 0] : Fin 2 → ℕ) = fun _ => 0 := by decide

/-- A load of elements held, knowing what is read there. -/
theorem ld (c : Dev nD) {α : Type} {Q : α → sProp 𝕄} {s : Shape} {e : EltTy} {M : Memref sig .tc .vmem s e} {r : Rect s}
    {S : Finset (Idx ((M.access r).loc (c : Thread nD τ)))} {q : PosShare TreeShare}
    {f : Buf (Elt F) ((M.access r).loc (c : Thread nD τ))} (w : r.shape.Idx → Elt F e) (hS : (M.access r).set ⊆ S)
    (hw : (M.access r).read (Elt F) f = w) {hl : M.view.LoadsAt r.toLoadRect}
    {k : (r.shape.Idx → Elt F e) → Prog (TpuEff nD τ sig (Elt F) Λ₀ .tc) α} :
    ((M.access r).loc (c : Thread nD τ) ↦[S]{q} f)
      ⊢ iprop((((M.access r).loc (c : Thread nD τ) ↦[S]{q} f) -∗ WP c (k w) Q) -∗ WP c (.op (.load M r.toLoadRect hl) k) Q) := by
  rw [← hw]
  exact (wp_load_rect 𝒱₀ (c : Thread nD τ) none Set.univ (m := M) (r := r) (S := S) (f := f) hS)

/-- A store to elements held, knowing what they then are. -/
theorem st (c : Dev nD) {α : Type} {Q : α → sProp 𝕄} {s : Shape} {e : EltTy} {M : Memref sig .tc .vmem s e} {r : Rect s}
    {S : Finset (Idx ((M.access r).loc (c : Thread nD τ)))}
    {f : Buf (Elt F) ((M.access r).loc (c : Thread nD τ))} (g : Buf (Elt F) ((M.access r).loc (c : Thread nD τ)))
    {w : r.shape.Idx → Elt F e} (hS : (M.access r).set = S)
    (hw : (M.access r).read (Elt F) g = w) {hx : (M.access r).Stores Finset.univ} {hm}
    {k : PUnit → Prog (TpuEff nD τ sig (Elt F) Λ₀ .tc) α} :
    ((M.access r).loc (c : Thread nD τ) ↦[S]{fullShare} f)
      ⊢ iprop((((M.access r).loc (c : Thread nD τ) ↦[S]{fullShare} g) -∗ WP c (k ⟨⟩) Q)
          -∗ WP c (.op (.store M r w Finset.univ hx hm) k) Q) := by
  have e : ∀ i ∈ S, (M.access r).write (Elt F) f w Finset.univ i = g i := fun i hi =>
    write_of_read (M.access r) f g hw i (by rw [hS]; exact hi)
  rw [← pointsTo_congr e]
  exact wp_store 𝒱₀ (c : Thread nD τ) none Set.univ (by rw [View.setOn_univ, hS])

theorem band_set {b : Ref sig .tc} (r : Rect b.ty.shape) : ((Memref.whole b).access r).set = r.set := View.set_slice_whole b r

/-- Loads of whole buffers. -/
theorem ld_x (c : Dev nD) {α : Type} {Q : α → sProp 𝕄} {inb} {hl} (f : S512x4096.Idx → Elt F .bf16) {k : (S512x4096.Idx → Elt F .bf16) → Prog (TpuEff nD τ sig (Elt F) Λ₀ .tc) α} :
    xP c f ⊢ iprop((xP c f -∗ WP c (k f) Q)
      -∗ WP c (.op (.load xM (Rect.unit (s := S512x4096) ![0, 0] S512x4096.size inb).toLoadRect hl) k) Q) :=
  ld c (M := xM) (r := Rect.unit (s := S512x4096) ![0, 0] S512x4096.size inb)
    (S := Finset.univ) f (Finset.subset_univ _) (Memref.readAt_unit_zero (Elt F) cc0_stg0_0 hz2 inb f)
theorem ld_w (c : Dev nD) {α : Type} {Q : α → sProp 𝕄} {inb} {hl} (f : S4096x256.Idx → Elt F .bf16) {k : (S4096x256.Idx → Elt F .bf16) → Prog (TpuEff nD τ sig (Elt F) Λ₀ .tc) α} :
    wP c f ⊢ iprop((wP c f -∗ WP c (k f) Q)
      -∗ WP c (.op (.load wM (Rect.unit (s := S4096x256) ![0, 0] S4096x256.size inb).toLoadRect hl) k) Q) :=
  ld c (M := wM) (r := Rect.unit (s := S4096x256) ![0, 0] S4096x256.size inb)
    (S := Finset.univ) f (Finset.subset_univ _) (Memref.readAt_unit_zero (Elt F) cc0_stg1_0 hz2 inb f)
theorem ld_v (c : Dev nD) {α : Type} {Q : α → sProp 𝕄} {inb} {hl} (f : S4096x256.Idx → Elt F .bf16) {k : (S4096x256.Idx → Elt F .bf16) → Prog (TpuEff nD τ sig (Elt F) Λ₀ .tc) α} :
    vP c f ⊢ iprop((vP c f -∗ WP c (k f) Q)
      -∗ WP c (.op (.load vM (Rect.unit (s := S4096x256) ![0, 0] S4096x256.size inb).toLoadRect hl) k) Q) :=
  ld c (M := vM) (r := Rect.unit (s := S4096x256) ![0, 0] S4096x256.size inb)
    (S := Finset.univ) f (Finset.subset_univ _) (Memref.readAt_unit_zero (Elt F) cc0_scratch1 hz2 inb f)
theorem ld_a (c : Dev nD) {α : Type} {Q : α → sProp 𝕄} {inb} {hl} {q : PosShare TreeShare} (f : S1x128.Idx → Elt F .f32) {k : (S1x128.Idx → Elt F .f32) → Prog (TpuEff nD τ sig (Elt F) Λ₀ .tc) α} :
    aP c q f ⊢ iprop((aP c q f -∗ WP c (k f) Q)
      -∗ WP c (.op (.load aM (Rect.unit (s := S1x128) ![0, 0] S1x128.size inb).toLoadRect hl) k) Q) :=
  ld c (M := aM) (r := Rect.unit (s := S1x128) ![0, 0] S1x128.size inb)
    (S := Finset.univ) f (Finset.subset_univ _) (Memref.readAt_unit_zero (Elt F) cc0_scratch2 hz2 inb f)
theorem ld_o (c : Dev nD) {α : Type} {Q : α → sProp 𝕄} {inb} {hl} (f : S4096x256.Idx → Elt F .f32) {k : (S4096x256.Idx → Elt F .f32) → Prog (TpuEff nD τ sig (Elt F) Λ₀ .tc) α} :
    oP c Finset.univ f ⊢ iprop((oP c Finset.univ f -∗ WP c (k f) Q)
      -∗ WP c (.op (.load oM (Rect.unit (s := S4096x256) ![0, 0] S4096x256.size inb).toLoadRect hl) k) Q) :=
  ld c (M := oM) (r := Rect.unit (s := S4096x256) ![0, 0] S4096x256.size inb)
    (S := Finset.univ) f (Finset.subset_univ _) (Memref.readAt_unit_zero (Elt F) cc0_stg2_0 hz2 inb f)
theorem ld_t (c : Dev nD) {α : Type} {Q : α → sProp 𝕄} {inb} {hl} (f : S8x128.Idx → Elt F .f32) {k : (S8x128.Idx → Elt F .f32) → Prog (TpuEff nD τ sig (Elt F) Λ₀ .tc) α} :
    tP c Finset.univ f ⊢ iprop((tP c Finset.univ f -∗ WP c (k f) Q)
      -∗ WP c (.op (.load tM (Rect.unit (s := S8x128) ![0, 0] S8x128.size inb).toLoadRect hl) k) Q) :=
  ld c (M := tM) (r := Rect.unit (s := S8x128) ![0, 0] S8x128.size inb)
    (S := Finset.univ) f (Finset.subset_univ _) (Memref.readAt_unit_zero (Elt F) cc0_scratch3 hz2 inb f)

/-- Loads of bands of rows: a block of the gathered array, a block of the result, a row of the table. -/
theorem ld_g (c s : Dev nD) {α : Type} {Q : α → sProp 𝕄} {off : Fin 2 → ℕ} (hoff : off = ![512 * s.val, 0]) {inb} {q : PosShare TreeShare} {hl}
    {k : (S512x4096.Idx → Elt F .bf16) → Prog (TpuEff nD τ sig (Elt F) Λ₀ .tc) α} :
    gP c (blk s) q (XG m)
      ⊢ iprop((gP c (blk s) q (XG m) -∗ WP c (k (xblk m s)) Q)
          -∗ WP c (.op (.load gM (Rect.unit (s := S4096x4096) off S512x4096.size inb).toLoadRect hl) k) Q) :=
  ld c (M := gM) (r := Rect.unit (s := S4096x4096) off S512x4096.size inb)
    (S := blk s) (xblk m s) ((band_set _).trans (rect_set hoff inb)).subset (read_XG m s hoff inb)
theorem ld_g' (c s : Dev nD) {α : Type} {Q : α → sProp 𝕄} {off : Fin 2 → ℕ} (hoff : off = ![512 * s.val, 0]) {inb} {f : S4096x4096.Idx → Elt F .bf16} {hl}
    {k : (S512x4096.Idx → Elt F .bf16) → Prog (TpuEff nD τ sig (Elt F) Λ₀ .tc) α} :
    gP c (blk s) fullShare f
      ⊢ iprop((∀ w, gP c (blk s) fullShare f -∗ WP c (k w) Q)
          -∗ WP c (.op (.load gM (Rect.unit (s := S4096x4096) off S512x4096.size inb).toLoadRect hl) k) Q) := by
  have h : ∃ w, gP c (blk s) fullShare f ⊢ iprop((gP c (blk s) fullShare f -∗ WP c (k w) Q)
      -∗ WP c (.op (.load gM (Rect.unit (s := S4096x4096) off S512x4096.size inb).toLoadRect hl) k) Q) :=
    ⟨_, ld c (Q := Q) (hl := hl) (M := gM) (r := Rect.unit (s := S4096x4096) off S512x4096.size inb)
    (S := blk s) (f := f) (k := k) _ ((band_set _).trans (rect_set hoff inb)).subset rfl⟩
  obtain ⟨w, h⟩ := h
  refine h.trans ?_
  iintro H Hk
  iapply H
  iintro Hg
  iapply Hk
  iexact Hg
theorem ld_o' (c s : Dev nD) {α : Type} {Q : α → sProp 𝕄} {off : Fin 2 → ℕ} (hoff : off = ![512 * s.val, 0]) {inb} {f : S4096x256.Idx → Elt F .f32} {hl}
    {k : (S512x256.Idx → Elt F .f32) → Prog (TpuEff nD τ sig (Elt F) Λ₀ .tc) α} :
    oP c (blk s) f
      ⊢ iprop((∀ w, oP c (blk s) f -∗ WP c (k w) Q)
          -∗ WP c (.op (.load oM (Rect.unit (s := S4096x256) off S512x256.size inb).toLoadRect hl) k) Q) := by
  have h : ∃ w, oP c (blk s) f ⊢ iprop((oP c (blk s) f -∗ WP c (k w) Q)
      -∗ WP c (.op (.load oM (Rect.unit (s := S4096x256) off S512x256.size inb).toLoadRect hl) k) Q) :=
    ⟨_, ld c (Q := Q) (hl := hl) (M := oM) (r := Rect.unit (s := S4096x256) off S512x256.size inb)
    (S := blk s) (f := f) (k := k) _ ((band_set _).trans (rect_set hoff inb)).subset rfl⟩
  obtain ⟨w, h⟩ := h
  refine h.trans ?_
  iintro H Hk
  iapply H
  iintro Hg
  iapply Hk
  iexact Hg
theorem ld_t' (c p : Dev nD) {α : Type} {Q : α → sProp 𝕄} {off : Fin 2 → ℕ} (hoff : off = ![p.val, 0]) {inb} {f : S8x128.Idx → Elt F .f32} {hl}
    {k : (S1x128.Idx → Elt F .f32) → Prog (TpuEff nD τ sig (Elt F) Λ₀ .tc) α} :
    tP c (rows p.val 1) f
      ⊢ iprop((∀ w, tP c (rows p.val 1) f -∗ WP c (k w) Q)
          -∗ WP c (.op (.load tM (Rect.unit (s := S8x128) off S1x128.size inb).toLoadRect hl) k) Q) := by
  have h : ∃ w, tP c (rows p.val 1) f ⊢ iprop((tP c (rows p.val 1) f -∗ WP c (k w) Q)
      -∗ WP c (.op (.load tM (Rect.unit (s := S8x128) off S1x128.size inb).toLoadRect hl) k) Q) :=
    ⟨_, ld c (Q := Q) (hl := hl) (M := tM) (r := Rect.unit (s := S8x128) off S1x128.size inb)
    (S := rows p.val 1) (f := f) (k := k) _ ((band_set _).trans (rect_set hoff inb)).subset rfl⟩
  obtain ⟨w, h⟩ := h
  refine h.trans ?_
  iintro H Hk
  iapply H
  iintro Hg
  iapply Hk
  iexact Hg

/-- Stores. -/
theorem st_g (c : Dev nD) {α : Type} {Q : α → sProp 𝕄} {off : Fin 2 → ℕ} (hoff : off = ![512 * c.val, 0]) {inb} {f : S4096x4096.Idx → Elt F .bf16} {hx hm}
    {k : PUnit → Prog (TpuEff nD τ sig (Elt F) Λ₀ .tc) α} :
    gP c (blk c) fullShare f
      ⊢ iprop((gP c (blk c) fullShare (XG m) -∗ WP c (k ⟨⟩) Q)
          -∗ WP c (.op (.store gM (Rect.unit (s := S4096x4096) off S512x4096.size inb) (k0_pay2 (xst m c)) Finset.univ hx hm) k) Q) :=
  st c (M := gM) (r := Rect.unit (s := S4096x4096) off S512x4096.size inb)
    (S := blk c) (XG m) ((band_set _).trans (rect_set hoff inb)) (read_XG m c hoff inb)
theorem st_o (c s : Dev nD) {α : Type} {Q : α → sProp 𝕄} {off : Fin 2 → ℕ} (hoff : off = ![512 * s.val, 0]) {inb} {f : S4096x256.Idx → Elt F .f32}
    {w : S512x256.Idx → Elt F .f32} (hw : gemm m c s = w) {hx hm} {k : PUnit → Prog (TpuEff nD τ sig (Elt F) Λ₀ .tc) α} :
    oP c (blk s) f
      ⊢ iprop((o1 m c s -∗ WP c (k ⟨⟩) Q)
          -∗ WP c (.op (.store oM (Rect.unit (s := S4096x256) off S512x256.size inb) w Finset.univ hx hm) k) Q) :=
  st c (M := oM) (r := Rect.unit (s := S4096x256) off S512x256.size inb)
    (S := blk s) (Y m c) ((band_set _).trans (rect_set hoff inb)) ((read_Y m c s hoff inb).trans hw)
theorem st_t (c : Dev nD) {α : Type} {Q : α → sProp 𝕄} {off : Fin 2 → ℕ} (hoff : off = ![c.val, 0]) {inb} {f : S8x128.Idx → Elt F .f32} {hx hm}
    {k : PUnit → Prog (TpuEff nD τ sig (Elt F) Λ₀ .tc) α} :
    tP c (rows c.val 1) f
      ⊢ iprop((tP c (rows c.val 1) (MX m) -∗ WP c (k ⟨⟩) Q)
          -∗ WP c (.op (.store tM (Rect.unit (s := S8x128) off S1x128.size inb) (k0_pay21 (AX m c)) Finset.univ hx hm) k) Q) :=
  st c (M := tM) (r := Rect.unit (s := S8x128) off S1x128.size inb)
    (S := rows c.val 1) (MX m) ((band_set _).trans (rect_set hoff inb)) ((read_MX m c hoff inb).trans (AXs_eq m c).symm)
theorem st_v (c : Dev nD) {α : Type} {Q : α → sProp 𝕄} {inb} {f g : S4096x256.Idx → Elt F .bf16} {hx hm}
    {k : PUnit → Prog (TpuEff nD τ sig (Elt F) Λ₀ .tc) α} :
    vP c f ⊢ iprop((vP c g -∗ WP c (k ⟨⟩) Q)
          -∗ WP c (.op (.store vM (Rect.unit (s := S4096x256) ![0, 0] S4096x256.size inb) g Finset.univ hx hm) k) Q) :=
  st c (M := vM) (r := Rect.unit (s := S4096x256) ![0, 0] S4096x256.size inb)
    (S := Finset.univ) g ((band_set _).trans ((rect_set rfl inb).trans rows_all)) (Memref.readAt_unit_zero (Elt F) cc0_scratch1 hz2 inb g)
theorem st_a (c : Dev nD) {α : Type} {Q : α → sProp 𝕄} {inb} {f g : S1x128.Idx → Elt F .f32} {hx hm}
    {k : PUnit → Prog (TpuEff nD τ sig (Elt F) Λ₀ .tc) α} :
    aP c fullShare f ⊢ iprop((aP c fullShare g -∗ WP c (k ⟨⟩) Q)
          -∗ WP c (.op (.store aM (Rect.unit (s := S1x128) ![0, 0] S1x128.size inb) g Finset.univ hx hm) k) Q) :=
  st c (M := aM) (r := Rect.unit (s := S1x128) ![0, 0] S1x128.size inb)
    (S := Finset.univ) g ((band_set _).trans ((rect_set rfl inb).trans rows_all)) (Memref.readAt_unit_zero (Elt F) cc0_scratch2 hz2 inb g)
theorem st_out (c : Dev nD) {α : Type} {Q : α → sProp 𝕄} {inb} {f g : S4096x256.Idx → Elt F .f32} {hx hm}
    {k : PUnit → Prog (TpuEff nD τ sig (Elt F) Λ₀ .tc) α} :
    oP c Finset.univ f ⊢ iprop((oP c Finset.univ g -∗ WP c (k ⟨⟩) Q)
          -∗ WP c (.op (.store oM (Rect.unit (s := S4096x256) ![0, 0] S4096x256.size inb) g Finset.univ hx hm) k) Q) :=
  st c (M := oM) (r := Rect.unit (s := S4096x256) ![0, 0] S4096x256.size inb)
    (S := Finset.univ) g ((band_set _).trans ((rect_set rfl inb).trans rows_all)) (Memref.readAt_unit_zero (Elt F) cc0_stg2_0 hz2 inb g)

/-- One product: load the two factors and the rows of the result, store the product there. -/
theorem step_gemm (c s : Dev nD) {α : Type} {Q : α → sProp 𝕄} {off off' : Fin 2 → ℕ} (hoff : off = ![512 * s.val, 0]) (hoff' : off' = ![512 * s.val, 0])
    {inb inb₀ inb' inb''} {q : PosShare TreeShare} {hl₁ hl₂ hl₃ hx hm}
    {w : (S512x4096.Idx → Elt F .bf16) → (S4096x256.Idx → Elt F .bf16) → S512x256.Idx → Elt F .f32} (hw : w = k0_pay4)
    {k : (S512x4096.Idx → Elt F .bf16) → (S4096x256.Idx → Elt F .bf16) → PUnit → Prog (TpuEff nD τ sig (Elt F) Λ₀ .tc) α} :
    iprop(gP c (blk s) q (XG m) ∗ vP c (wv m c) ∗ o0 c s)
      ⊢ iprop(((gP c (blk s) q (XG m) ∗ vP c (wv m c) ∗ o1 m c s) -∗ WP c (k (xblk m s) (wv m c) ⟨⟩) Q)
          -∗ WP c (.op (.load gM (Rect.unit (s := S4096x4096) off S512x4096.size inb).toLoadRect hl₁) fun x =>
              .op (.load vM (Rect.unit (s := S4096x256) ![0, 0] S4096x256.size inb₀).toLoadRect hl₂) fun v =>
              .op (.load oM (Rect.unit (s := S4096x256) off' S512x256.size inb').toLoadRect hl₃) fun _ =>
              .op (.store oM (Rect.unit (s := S4096x256) off' S512x256.size inb'') (w x v) Finset.univ hx hm) (k x v)) Q) := by
  subst hw
  unfold o0
  iintro ⟨Hg, Hv, ⟨%f, Ho⟩⟩ Hk
  iapply (ld_g m c s hoff) $$ Hg
  iintro Hg
  iapply (ld_v c (wv m c)) $$ Hv
  iintro Hv
  iapply (ld_o' c s hoff') $$ Ho
  iintro %_ Ho
  iapply (st_o m c s hoff' rfl) $$ Ho
  iintro Ho
  iapply Hk
  isplitl [Hg]; · iexact Hg
  isplitl [Hv] <;> iassumption

end Cert.GatherQuant
-- ==== Proof.Exchange.lean ====
/- The exchange of the maxima, one destination or one source at a time: sending the device's maximum to `p`, waiting for
   that of `p`, waiting for one's own to have left. Each is printed under a condition that `p` is another device. -/
module

public import proofs.«01_k».proof.Proof.Steps

@[expose] public section

noncomputable section

namespace Cert.GatherQuant

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A row of the table as a transfer names it. -/
abbrev tRow (off : Fin 2 → ℕ) (inb : ∀ x, off x + S1x128.size x ≤ S8x128.size x) :
    Memref sig .tc .vmem (Rect.unit (s := S8x128) off S1x128.size inb).shape .f32 :=
  tM.slice (Rect.unit (s := S8x128) off S1x128.size inb) (fun _ => rfl)

theorem tRow_set {off : Fin 2 → ℕ} {inb : ∀ x, off x + S1x128.size x ≤ S8x128.size x} {l : ℕ} (hoff : off = ![l, 0]) :
    (tRow off inb).view.set = rows l 1 := (View.set_slice_whole _ _).trans (rect_set hoff inb)

/-- Before and after sending the maximum to `p`; after it has left. -/
def ax0 (c p : Dev nD) : sProp 𝕄 :=
  if p = c then iprop(emp) else iprop(tok c (.inr (.inr p)) ∗ ownTok c (axsK p) ∗ pos c (axsK p) ∗ right (F := F) p c)
def ax1 (c p : Dev nD) : sProp 𝕄 :=
  if p = c then aP c (shareA p) (AX m c) else iprop(credK c (axsK p) NA ∗ pos c (axsK p))
def ax2 (c p : Dev nD) : sProp 𝕄 :=
  iprop(aP c (shareA p) (AX m c) ∗ (if p = c then iprop(emp) else zeroK c (axsK p)))
/-- Before and after waiting for `p`'s maximum. -/
def ar0 (c p : Dev nD) : sProp 𝕄 :=
  if p = c then tP c (rows p.val 1) (MX m) else iprop(credK c (axrK p) NA ∗ pos c (axrK p))
def ar1 (c p : Dev nD) : sProp 𝕄 :=
  iprop(tP c (rows p.val 1) (MX m) ∗ (if p = c then iprop(emp) else zeroK c (axrK p)))

/-- A piece of the body under a condition: with what it takes when the condition holds, or without. -/
theorem under {c : Dev nD} {C : BitVec 1} {X Z : sProp 𝕄} {α : Type} {Q : α → sProp 𝕄}
    {B : C = 1#1 → Prog (TpuEff nD τ sig (Elt F) Λ₀ .tc) α} {K : Prog (TpuEff nD τ sig (Elt F) Λ₀ .tc) α} {φ : Prop}
    (hC : C = 1#1 ↔ φ) (hpos : ∀ h : C = 1#1, φ → X ⊢ iprop((Z -∗ WP c K Q) -∗ WP c (B h) Q)) (hneg : ¬ φ → X ⊢ Z) :
    X ⊢ iprop((Z -∗ WP c K Q) -∗ WP c (if h : C = 1#1 then B h else K) Q) := by
  by_cases h : C = 1#1
  · rw [dif_pos h]; exact hpos h (hC.mp h)
  · rw [dif_neg h]
    refine (hneg fun h' => h (hC.mpr h')).trans ?_
    iintro HZ Hk; iapply Hk; iexact HZ

theorem step_axsend (c n p : Dev nD) (hp : p ≠ c) (hn : n = p) {kS kR : DmaSem sig} (hS : kS = axsK p) (hR : kR = axrK c)
    {P₀ : Finset (Fin 8)} (P : Finset (Fin 8)) (hP : p ∉ P ∧ P₀ = insert p P)
    {off : Fin 2 → ℕ} {inb : ∀ x, off x + S1x128.size x ≤ S8x128.size x} (hoff : off = ![c.val, 0])
    {hsc : (tRow off inb : Memref sig (Dev.tc n : Thread nD τ).2.kind .vmem _ .f32).view.ref.isScScratch = false}
    {hsrc : aM.view.WordExact} {hdst : (tRow off inb).view.WordExact}
    {hsem : DmaTarget.Typed .vmem (.dma kR) (.remote (Dev.tc n : Thread nD τ) (tRow off inb) (.dma kS) hsc)}
    {α : Type} {Q : α → sProp 𝕄} {k : PUnit → Prog (TpuEff nD τ sig (Elt F) Λ₀ .tc) α} :
    iprop(env m ∗ Ow c ∅ ∅ P₀ ∗ ax0 c p ∗ aP c (shareA p) (AX m c))
      ⊢ iprop(((Ow c ∅ ∅ P ∗ ax1 m c p) -∗ WP c (k ⟨⟩) Q)
          -∗ WP c (.op (.enqueueDma aM (.remote (Dev.tc n : Thread nD τ) (tRow off inb) (.dma kS) hsc)
              (.dma kR) hsrc hdst hsem) k) Q) := by
  subst hn hS hR
  obtain ⟨hp', rfl⟩ := hP
  have hrole₁ : roleD c (axsK n) = .axs n := roleD_axs c n hp
  have hrole₂ : roleD n (axrK c) = .axr c := roleD_axr n c hp.symm
  have hpay₁ : (aM.view.loc (c : Thread nD τ) ↦[aM.view.set]{shareA n} (AX m c))
      ⊢ (Rd m).payload (dCell c (axsK n)) 0 (0 : Fin 3) := by
    refine Entails.of_eq ?_
    show _ = payR m c 0 (roleG (dCell c (axsK n)))
    rw [roleG_dma, hrole₁, show (aM.view.set : Finset S1x128.Idx) = Finset.univ from View.set_whole _]; rfl
  have hpay₂ : ∀ fd, iprop(((tRow off inb).view.loc (n : Thread nD τ) ↦[(tRow off inb).view.set]{fullShare}
        ((tRow off inb).view.write (Elt F) fd (aM.view.read (Elt F) (AX m c)) Finset.univ)) ∗ emp)
      ⊢ (Rd m).payload (dCell n (axrK c)) 0 (0 : Fin 3) := by
    intro fd
    rw [show (Rd m).payload (dCell n (axrK c)) 0 (0 : Fin 3) = tP n (rows c.val 1) (MX m) from by
      show payR m n 0 (roleG (dCell n (axrK c))) = _
      rw [roleG_dma, hrole₂]; rfl]
    refine (sep_emp (PROP := sProp 𝕄)).1.trans (Entails.of_eq ?_)
    rw [tRow_set (l := c.val) hoff]
    refine pointsTo_congr fun i hi => ?_
    refine write_of_read (tRow off inb).view fd (MX m) (read_MX m c hoff inb) i ?_
    rw [tRow_set (l := c.val) hoff]; exact hi
  have hs : aP c (shareA n) (AX m c) = (aM.view.loc (c : Thread nD τ) ↦[aM.view.set]{shareA n} (AX m c)) := by
    rw [show (aM.view.set : Finset S1x128.Idx) = Finset.univ from View.set_whole _]; rfl
  have hl : ∀ fd : S8x128.Idx → Elt F .f32, tP n (rows c.val 1) fd
      = ((tRow off inb).view.loc (n : Thread nD τ) ↦[(tRow off inb).view.set]{fullShare} fd) := by
    intro fd
    rw [tRow_set (l := c.val) hoff]; rfl
  unfold Ow ax0 ax1
  rw [if_neg hp, if_neg hp]
  unfold tok ownTok pos credK right
  iintro ⟨#He, ⟨%W, HO⟩, ⟨Ht, Hot, Hpos, ⟨%fd, Hl⟩⟩, Hs⟩ Hk
  ihave #Hc := (env_dma m c (axsK n) (axsK_ge n)) $$ He
  ihave #Hd := (env_dma m n (axrK c) (axrK_ge c)) $$ He
  unfold cellOK
  icases Hc with ⟨⟨%κ₁, #Hi₁⟩, #Hr₁⟩
  icases Hd with ⟨⟨%κ₂, #Hi₂⟩, #Hr₂⟩
  iapply (Rounds.wp_send_pointsTo_with 𝒱₀ ER (Rd m) (c : Thread nD τ) none (κ₁ := κ₁) (κ₂ := κ₂) (r₁ := 0) (r₂ := 0)
      (d₁ := (0 : Fin 3)) (d₂ := (0 : Fin 3)) (fs := AX m c) (fd := fd) (q := shareA n)
      (c' := (n : Thread nD τ)) (src := aM) (dst := tRow off inb) (sS := .dma (axsK n)) (sem := .dma (axrK c))
      (by rw [duties_zero, roleG_dma, hrole₁]; exact Finset.mem_singleton_self _)
      (by rw [duties_zero, roleG_dma, hrole₂]; exact Finset.mem_singleton_self _)
      () () NA rfl
      (by show amountR (roleG (dCell c (axsK n))) = NA; rw [roleG_dma, hrole₁]; rfl)
      (by show amountR (roleG (dCell n (axrK c))) = NA; rw [roleG_dma, hrole₂]; rfl)
      (owed c ∅ ∅ P) (OM_insert c hp' ∅ ∅) hpay₁ (hpay₂ fd)) $$ [HO Ht Hot Hl Hs]
  · isplitr; · iexact Hi₁
    isplitr; · iexact Hi₂
    isplitl [Hs]; · iapply (Entails.of_eq hs); iexact Hs
    isplitl [Hl]
    · isplitl [Hl]; · iapply (Entails.of_eq (hl fd)); iexact Hl
      iempintro
    isplitl [HO]; · iexact HO
    isplitl [Hot]; · iexact Hot
    isplitr; · iexact Hr₁
    isplitl [Ht]; · iexact Ht
    iexact Hr₂
  iintro ⟨Hcr, HO⟩
  iapply Hk
  isplitl [HO]; · iexists W; iexact HO
  isplitl [Hcr] <;> iassumption

theorem step_axrecv (c p : Dev nD) (hp : p ≠ c) {kR : DmaSem sig} (hR : kR = axrK p)
    {off : Fin 2 → ℕ} {inb : ∀ x, off x + S1x128.size x ≤ S8x128.size x}
    {sp' : Space} {s' : Shape} {e' : EltTy} {src : Memref sig .tc sp' s' e'}
    {hsrc : src.view.WordExact} {hdst : (tRow off inb).view.WordExact}
    {α : Type} {Q : α → sProp 𝕄} {k : PUnit → Prog (TpuEff nD τ sig (Elt F) Λ₀ .tc) α} :
    iprop(env m ∗ Ow c ∅ ∅ ∅ ∗ ar0 m c p)
      ⊢ iprop(((Ow c ∅ ∅ ∅ ∗ ar1 m c p) -∗ WP c (k ⟨⟩) Q)
          -∗ WP c (.op (.waitDma2 kR src (tRow off inb) hsrc hdst) k) Q) := by
  unfold ar0 ar1
  rw [if_neg hp, if_neg hp]
  iintro ⟨He, HO, Hc, Hp⟩ Hk
  iapply (step_wait m c (axrK p) hR (axrK_ge p) (.axr p) (roleD_axr c p hp) rfl (P := ∅) (E := ∅)
    (Finset.notMem_empty c) (fun e h => absurd h (Finset.notMem_empty e)) (fun e h => absurd h (Finset.notMem_empty e)) rfl) $$ [He HO Hc Hp]
  · isplitl [He]; · iexact He
    isplitl [HO]; · iexact HO
    isplitl [Hc]; · iexact Hc
    iexact Hp
  unfold payR axrPay
  iintro ⟨HO, Hg, Hz⟩
  iapply Hk
  isplitl [HO]; · iexact HO
  isplitl [Hg] <;> iassumption

theorem step_axsent (c p : Dev nD) (hp : p ≠ c) {kS : DmaSem sig} (hS : kS = axsK p)
    {sp' : Space} {s' : Shape} {e' : EltTy} {src : Memref sig .tc sp' s' e'}
    {hsrc : src.view.WordExact} {hdst : aM.view.WordExact}
    {α : Type} {Q : α → sProp 𝕄} {k : PUnit → Prog (TpuEff nD τ sig (Elt F) Λ₀ .tc) α} :
    iprop(env m ∗ Ow c ∅ ∅ ∅ ∗ ax1 m c p)
      ⊢ iprop(((Ow c ∅ ∅ ∅ ∗ ax2 m c p) -∗ WP c (k ⟨⟩) Q)
          -∗ WP c (.op (.waitDma2 kS src aM hsrc hdst) k) Q) := by
  unfold ax1 ax2
  rw [if_neg hp, if_neg hp]
  iintro ⟨He, HO, Hc, Hp⟩ Hk
  iapply (step_wait m c (axsK p) hS (axsK_ge p) (.axs p) (roleD_axs c p hp) rfl (P := ∅) (E := ∅)
    (Finset.notMem_empty c) (fun e h => absurd h (Finset.notMem_empty e)) (fun e h => absurd h (Finset.notMem_empty e)) rfl) $$ [He HO Hc Hp]
  · isplitl [He]; · iexact He
    isplitl [HO]; · iexact HO
    isplitl [Hc]; · iexact Hc
    iexact Hp
  unfold payR axsPay
  iintro ⟨HO, Hg, Hz⟩
  iapply Hk
  isplitl [HO]; · iexact HO
  isplitl [Hg] <;> iassumption

/-- The devices from `k` on, but `c`: those still to be sent the maximum. -/
def lat (c : Dev nD) (k : ℕ) : Finset (Fin 8) := (Finset.univ.filter fun p : Fin 8 => k ≤ p.val).erase c
theorem lat_step : ∀ c p : Dev nD, (p ≠ c → p ∉ lat c (p.val + 1) ∧ lat c p.val = insert p (lat c (p.val + 1)))
    ∧ (¬ p ≠ c → lat c p.val = lat c (p.val + 1)) := by decide +kernel
theorem lat_zero : ∀ c : Dev nD, lat c 0 = Finset.univ.erase c := by decide +kernel
theorem lat_last : ∀ c : Dev nD, lat c 8 = ∅ := by decide +kernel

/-- Nothing is sent to oneself. -/
theorem axsend_self (c p : Dev nD) (hp : ¬ p ≠ c) :
    iprop(env m ∗ Ow c ∅ ∅ (lat c p.val) ∗ ax0 c p ∗ aP c (shareA p) (AX m c))
      ⊢ iprop(Ow c ∅ ∅ (lat c (p.val + 1)) ∗ ax1 m c p) := by
  unfold ax1
  rw [if_pos (not_not.mp hp), (lat_step c p).2 hp]
  iintro ⟨-, HO, -, Ha⟩
  isplitl [HO] <;> iassumption
theorem axrecv_self (c p : Dev nD) (hp : ¬ p ≠ c) :
    iprop(env m ∗ Ow c ∅ ∅ ∅ ∗ ar0 m c p) ⊢ iprop(Ow c ∅ ∅ ∅ ∗ ar1 m c p) := by
  unfold ar0 ar1
  rw [if_pos (not_not.mp hp), if_pos (not_not.mp hp)]
  iintro ⟨-, HO, Ha⟩
  isplitl [HO]; · iexact HO
  isplitl [Ha]; · iexact Ha
  iempintro
theorem axsent_self (c p : Dev nD) (hp : ¬ p ≠ c) :
    iprop(env m ∗ Ow c ∅ ∅ ∅ ∗ ax1 m c p) ⊢ iprop(Ow c ∅ ∅ ∅ ∗ ax2 m c p) := by
  unfold ax1 ax2
  rw [if_pos (not_not.mp hp), if_pos (not_not.mp hp)]
  iintro ⟨-, HO, Ha⟩
  isplitl [HO]; · iexact HO
  isplitl [Ha]; · iexact Ha
  iempintro

theorem axs_sem (p : Dev nD) {off : Fin 1 → ℕ} (h : off = ![p.val]) (inb : ∀ x, off x + (![1] : Fin 1 → ℕ) x ≤ S8.size x) {hq} :
    (((cc0_scratch10.slice (Rect.unit (s := S8) off ![1] inb)).squeeze S_ hq).sem : Fin 37) = axsK p := by
  subst h; revert p; decide +kernel
theorem axr_sem (p : Dev nD) {off : Fin 1 → ℕ} (h : off = ![p.val]) (inb : ∀ x, off x + (![1] : Fin 1 → ℕ) x ≤ S8.size x) {hq} :
    (((cc0_scratch11.slice (Rect.unit (s := S8) off ![1] inb)).squeeze S_ hq).sem : Fin 37) = axrK p := by
  subst h; revert p; decide +kernel
/-- Eight separate pieces, one by one. -/
theorem big8 (Φ : Fin 8 → sProp 𝕄) : (bigSep Finset.univ Φ : sProp 𝕄)
    = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  rfl
/-- The maximum's share is split over the eight destinations. -/
theorem aP_leaves (c : Dev nD) (f : S1x128.Idx → Elt F .f32) :
    aP c fullShare f = bigSep Finset.univ fun p : Fin 8 => aP c (shareA p) f := by
  unfold aP shareA
  exact ShareLeaves.pointsTo_leaves (ℓ := (c : Thread nD τ).loc cc0_scratch2) Finset.univ f 3 fullShare

/-- A piece of the body run on the device's own buffers and semaphores. -/
abbrev atBufs {β : Type 1} (f : (a0 : Memref sig .tc .vmem S512x4096 .bf16) → a0.IsWhole → (a1 : Memref sig .tc .vmem S4096x256 .bf16) → a1.IsWhole
    → (a2 : Memref sig .tc .vmem S4096x256 .f32) → a2.IsWhole → (a3 : Memref sig .tc .vmem S4096x4096 .bf16) → a3.IsWhole
    → (a4 : Memref sig .tc .vmem S4096x256 .bf16) → a4.IsWhole → (a5 : Memref sig .tc .vmem S1x128 .f32) → a5.IsWhole
    → (a6 : Memref sig .tc .vmem S8x128 .f32) → a6.IsWhole → DmaSems sig S3 → DmaSems sig S3 → DmaSems sig S3 → DmaSems sig S3
    → DmaSems sig S3 → DmaSems sig S3 → DmaSems sig S8 → DmaSems sig S8 → β) : β :=
  f xM (Memref.isWhole_whole _) wM (Memref.isWhole_whole _) oM (Memref.isWhole_whole _) gM (Memref.isWhole_whole _)
    vM (Memref.isWhole_whole _) aM (Memref.isWhole_whole _) tM (Memref.isWhole_whole _)
    cc0_scratch4 cc0_scratch5 cc0_scratch6 cc0_scratch7 cc0_scratch8 cc0_scratch9 cc0_scratch10 cc0_scratch11

theorem ret {c : Dev nD} {α : Type} {a : α} {Q : α → sProp 𝕄} : Q a ⊢ WP (F := F) c (.ret a) Q := by
  exact fupd_intro

/-- The printed word for a device's number. -/
abbrev devW (c : Dev nD) : BitVec 32 := Scalar.remsi (Scalar.divsi (Dev.word c) 1#32) 8#32

end Cert.GatherQuant
-- ==== Proof.Gather.lean ====
/- The first pieces of the body: the neighbours are signalled and waited for, the device's own block is stored in the
   gathered array and sent three ways, the neighbours' blocks arrive, are sent on and multiplied. -/
module

public import proofs.«01_k».proof.Proof.Exchange

@[expose] public section

noncomputable section

namespace Cert.GatherQuant

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The other devices. -/
abbrev others (c : Dev nD) : Finset (Fin 8) := Finset.univ.erase c
theorem others_not (c : Dev nD) : c ∉ others c := Finset.notMem_erase c _

/-- The copies from `k` on. -/
def copies (k : ℕ) : Finset (Fin 8) := Finset.univ.filter fun e : Fin 8 => k ≤ e.val
theorem copies_zero : Finset.univ = copies 0 := by decide
theorem copies_step : ∀ e : Fin 8, e ∉ copies (e.val + 1) ∧ copies e.val = insert e (copies (e.val + 1)) := by decide
theorem copies_five : 5 ∉ (copies 4).erase 5 ∧ copies 4 = insert 5 ((copies 4).erase 5) := by decide
theorem copies_four (b : Prop) [Decidable b] : 4 ∉ (if b then copies 6 else copies 5)
    ∧ (if b then (copies 4).erase 5 else copies 4) = insert 4 (if b then copies 6 else copies 5) := by split <;> decide
theorem copies_five' : 5 ∉ copies 6 ∧ copies 5 = insert 5 (copies 6) := by decide
/-- The signals left after the first and after the second. -/
abbrev sig1 : Finset (Fin 3) := {0, 2}
abbrev sig2 : Finset (Fin 3) := {2}

/-- All that copy `e` needs to be sent. -/
def ready (c : Dev nD) (e : Fin 8) : sProp 𝕄 :=
  iprop(cp0 c e ∗ land c e ∗ gP c (outR c e) (shareE e) (XG m) ∗ rights (F := F) (sorg c e) (R e (sorg c e)))
/-- What the wait for the landing of copy `e` gives. -/
def got (c : Dev nD) (e : Fin 8) : sProp 𝕄 :=
  iprop(gP c (inR c e) fullShare (XG m) ∗ rights (F := F) (org c e) (R e (org c e)) ∗ zeroK c (rcvK c e))
/-- What the wait for copy `e` to have left gives. -/
def left (c : Dev nD) (e : Fin 8) : sProp 𝕄 := iprop(gP c (outR c e) (shareE e) (XG m) ∗ zeroK c (sndK c e))

theorem outR_whole (c : Dev nD) (e : Fin 8) (h : e ≠ 6 ∧ e ≠ 7) : outR c e = blk (sorg c e) := by
  unfold outR blk lo cnt; rw [if_neg h.2, if_neg (not_or.mpr h)]; rfl
theorem inR_whole (c : Dev nD) (e : Fin 8) (h : e ≠ 6 ∧ e ≠ 7) : inR c e = blk (org c e) := by
  unfold inR blk lo cnt; rw [if_neg h.2, if_neg (not_or.mpr h)]; rfl

/-- A share of part of the gathered array, in two halves. -/
theorem share2 (c : Dev nD) (S : Finset S4096x4096.Idx) (q : PosShare TreeShare) :
    gP c S q (XG m) ⊢ iprop(gP c S q.left (XG m) ∗ gP c S q.right (XG m)) := (pointsTo_share (PosShare.mem_left_op_right q)).1
theorem unshare2 (c : Dev nD) (S : Finset S4096x4096.Idx) (q : PosShare TreeShare) :
    iprop(gP c S q.left (XG m) ∗ gP c S q.right (XG m)) ⊢ gP c S q (XG m) := (pointsTo_share (PosShare.mem_left_op_right q)).2

/-- A piece of the body under a condition of one parity followed by one under the other. -/
theorem both {c : Dev nD} {b : Prop} [Decidable b] {C₁ C₂ : BitVec 1} {X Z : sProp 𝕄} {α : Type} {Q : α → sProp 𝕄}
    {B₁ : C₁ = 1#1 → Prog (TpuEff nD τ sig (Elt F) Λ₀ .tc) α} {B₂ : C₂ = 1#1 → Prog (TpuEff nD τ sig (Elt F) Λ₀ .tc) α}
    {K : Prog (TpuEff nD τ sig (Elt F) Λ₀ .tc) α} (hC₁ : C₁ = 1#1 ↔ b) (hC₂ : C₂ = 1#1 ↔ ¬ b)
    (h₁ : ∀ h : C₁ = 1#1, X ⊢ iprop((Z -∗ WP c (if h : C₂ = 1#1 then B₂ h else K) Q) -∗ WP c (B₁ h) Q))
    (h₂ : ∀ h : C₂ = 1#1, X ⊢ iprop((Z -∗ WP c K Q) -∗ WP c (B₂ h) Q)) :
    X ⊢ iprop((Z -∗ WP c K Q) -∗ WP c (if h : C₁ = 1#1 then B₁ h else (if h : C₂ = 1#1 then B₂ h else K)) Q) := by
  by_cases hb : b
  · have e : (if h : C₂ = 1#1 then B₂ h else K) = K := dif_neg fun h => hC₂.mp h hb
    have h := h₁ (hC₁.mpr hb)
    rw [e] at h
    rw [dif_pos (hC₁.mpr hb)]; exact h
  · rw [dif_neg fun h => hb (hC₁.mp h), dif_pos (hC₂.mpr hb)]; exact h₂ (hC₂.mpr hb)

/-- A claim made on even places only. -/
def onEven (c : Dev nD) (X : sProp 𝕄) : sProp 𝕄 := if even c = true then X else iprop(emp)
theorem onEven_pos {c : Dev nD} (h : even c = true) {X : sProp 𝕄} : onEven c X = X := if_pos h
theorem onEven_neg {c : Dev nD} (h : ¬ even c = true) {X : sProp 𝕄} : onEven c X = iprop(emp) := if_neg h

/-! ## Offsets -/

theorem off4_0 : ∀ c : Dev nD, k0_off4 c 4294967295#32 = ![lo (sorg c 3) 3, 0] := by decide +kernel
theorem off4_1 : ∀ c : Dev nD, k0_off4 c 1#32 = ![lo (sorg c 4) 4, 0] := by decide +kernel
theorem off5 : ∀ c : Dev nD, k0_cond1 c = 1#1 → k0_off5 c = ![lo (sorg c 5) 5, 0] := by decide +kernel
theorem off6 : ∀ c : Dev nD, k0_cond2 c = 1#1 → k0_off6 c = ![lo (sorg c 5) 5, 0] := by decide +kernel
theorem off8_0 : ∀ c : Dev nD, k0_off8 c 4294967295#32 = ![512 * (org c 0).val, 0] := by decide +kernel
theorem off8_1 : ∀ c : Dev nD, k0_off8 c 1#32 = ![512 * (org c 1).val, 0] := by decide +kernel
theorem off9_0 : ∀ c : Dev nD, k0_off9 c 4294967295#32 = ![512 * (org c 0).val, 0] := by decide +kernel
theorem off9_1 : ∀ c : Dev nD, k0_off9 c 1#32 = ![512 * (org c 1).val, 0] := by decide +kernel
theorem off10 : ∀ c : Dev nD, k0_off10 c = ![512 * (org c 2).val, 0] := by decide +kernel
theorem off11 : ∀ c : Dev nD, k0_off11 c = ![512 * (org c 2).val, 0] := by decide +kernel
theorem off1 : ∀ c : Dev nD, k0_off1 c = ![512 * c.val, 0] := by decide +kernel
theorem off2 : ∀ c : Dev nD, k0_off2 c = ![512 * c.val, 0] := by decide +kernel
theorem off3 : ∀ c : Dev nD, k0_off3 c = ![512 * c.val, 0] := by decide +kernel
theorem cond1 : ∀ c : Dev nD, k0_cond1 c = 1#1 ↔ even c = true := by decide +kernel
theorem cond2 : ∀ c : Dev nD, k0_cond2 c = 1#1 ↔ ¬ even c = true := by decide +kernel

/-! ## The pieces -/

attribute [local irreducible] k0_off4 k0_off5 k0_off6 k0_off8 k0_off9 k0_cond1 k0_cond2

/-- Two of the three signals. -/
theorem part3 (c : Dev nD) (Kt : (Σ' (d0 : Dev nD) (v2 : BitVec 32) (v5 : BitVec 32) (v7 : BitVec 1) (v12 : BitVec 32) (v17 : BitVec 32) (v21 : BitVec 32) (v24 : BitVec 32) (v25 : Sems sig S_), BitVec 32) → sProp 𝕄) :
    iprop(env m ∗ Ow c Finset.univ Finset.univ (others c) ∗ tok c (.inl 0) ∗ give c 0 ∗ tok c (.inl 1) ∗ give c 1
        ∗ (∀ (v5 : BitVec 32) (v7 : BitVec 1) (v12 : BitVec 32) (v17 : BitVec 32) (v21 : BitVec 32) (v24 : BitVec 32) (w : BitVec 32),
            Ow c sig2 Finset.univ (others c) -∗ Kt ⟨c, devW c, v5, v7, v12, v17, v21, v24, SemArray.scalar (sig.barrier 0 rfl), w⟩))
      ⊢ WP c (atBufs (k0_part3 (F := F))) Kt := by
  simp only [atBufs, k0_part3_eq_skeleton]; unfold k0_part3_skel
  simp only [semSignalWord, Prog.lift, Prog.bind_op, Prog.bind_ret, Prog.pure_eq_ret, wp_deviceId]
  rw [show (Finset.univ : Finset (Fin 3)) = insert 1 sig1 from by decide]
  iintro ⟨#He, HO, Ht0, Hg0, Ht1, Hg1, Hk⟩
  iapply (step_signal m c _ 1 (dev1 c) (B := sig1) (by decide) Finset.univ (others c)) $$ [HO Ht1 Hg1]
  · isplitr; · iexact He
    isplitl [HO]; · iexact HO
    isplitl [Ht1] <;> iassumption
  iintro HO
  iapply (step_signal m c _ 0 (dev2 c) (B := sig2) (by decide) Finset.univ (others c)) $$ [HO Ht0 Hg0]
  · isplitr; · iexact He
    isplitl [HO]; · iexact HO
    isplitl [Ht0] <;> iassumption
  iintro HO
  iapply ret
  iapply Hk
  iexact HO

/-- The third signal, the wait for the neighbours; the block is stored and sent right and left. -/
theorem part4 (c : Dev nD) (v2 v12 v17 v24 w : BitVec 32) (Kt : BitVec 32 → sProp 𝕄) :
    iprop(env m ∗ Ow c sig2 Finset.univ (others c) ∗ (tok c (.inl 2) ∗ give c 2)
        ∗ (cred (tallyAt (barCell c) () 3) ∗ atPos ER (barCell c) 0 (∅ : Finset (Fin 3)) 0)
        ∗ xP c (xst m c) ∗ (∃ f, gP (F := F) c (blk c) fullShare f)
        ∗ (cp0 c 0 ∗ rights (F := F) c (R 0 c)) ∗ (cp0 c 1 ∗ rights (F := F) c (R 1 c))
        ∗ (∀ w, (Ow (F := F) c ∅ (copies 2) (others c) ∗ xP c (xst m c) ∗ semVal (barCell c) 0 ∗ sent c 0 ∗ sent c 1
            ∗ (land c 2 ∗ land c 3 ∗ land c 4 ∗ land c 5 ∗ land c 6 ∗ land c 7)
            ∗ gP c (blk c) fullShare.right.left (XG m) ∗ gP c (blk c) fullShare.right.right (XG m)) -∗ Kt w))
      ⊢ WP c (atBufs (k0_part4 (F := F)) c v2 v12 v17 v24 (SemArray.scalar (sig.barrier 0 rfl)) w) Kt := by
  simp only [atBufs, k0_part4_eq_skeleton]; unfold k0_part4_skel
  simp only [semSignalWord, semWaitWord, Prog.lift, Prog.bind_op, Prog.bind_ret, Prog.pure_eq_ret]
  iintro ⟨#He, HO, ⟨Ht, Hg⟩, ⟨Hc, Ha⟩, Hx, ⟨%f, Hb⟩, ⟨Hp0, Hr0⟩, ⟨Hp1, Hr1⟩, Hk⟩
  iapply (step_signal m c _ 2 (dev3 c) (B := ∅) (by decide) Finset.univ (others c)) $$ [HO Ht Hg]
  · isplitr; · iexact He
    isplitl [HO]; · iexact HO
    isplitl [Ht] <;> iassumption
  iintro HO
  iapply (step_wait_bar m c (others_not c)) $$ [HO Hc Ha]
  · isplitr; · iexact He
    isplitl [HO]; · iexact HO
    isplitl [Hc] <;> iassumption
  iintro ⟨HO, Hl, Hz⟩
  ihave Hl := (Entails.of_eq ((show (bigSep Finset.univ fun e => iprop(∃ f, gP (F := F) (tgt c e) (outR c e) fullShare f))
      = bigSep Finset.univ fun e => land c e from rfl).trans (big8 fun e => land (F := F) c e))) $$ Hl
  icases Hl with ⟨Hl0, Hl1, Hl2, Hl3, Hl4, Hl5, Hl6, Hl7⟩
  iapply (ld_x c (xst m c)) $$ Hx
  iintro Hx
  iapply (ld_g' c c (off1 c)) $$ Hb
  iintro %_ Hb
  iapply (st_g m c (off1 c)) $$ Hb
  iintro Hb
  ihave Hb := (share2 m c (blk c) fullShare) $$ Hb
  icases Hb with ⟨Hb, Hb'⟩
  ihave Hb := (share2 m c (blk c) fullShare.left) $$ Hb
  icases Hb with ⟨Hb0, Hb1⟩
  ihave Hb' := (share2 m c (blk c) fullShare.right) $$ Hb'
  icases Hb' with ⟨Hb2, Hb3⟩
  iapply (step_send m c _ 0 (dev4 c) rfl rfl (copies 1) (others c) (copies_step 0) rfl (off2 c)) $$ [HO Hp0 Hl0 Hb0 Hr0]
  · isplitr; · iexact He
    isplitl [HO]; · iexact HO
    isplitl [Hp0]; · iexact Hp0
    isplitl [Hl0]; · iexact Hl0
    isplitl [Hb0]; · iexact Hb0
    iexact Hr0
  iintro ⟨HO, Hs0⟩
  iapply (step_send m c _ 1 (dev5 c) rfl rfl (copies 2) (others c) (copies_step 1) rfl (off2 c)) $$ [HO Hp1 Hl1 Hb1 Hr1]
  · isplitr; · iexact He
    isplitl [HO]; · iexact HO
    isplitl [Hp1]; · iexact Hp1
    isplitl [Hl1]; · iexact Hl1
    isplitl [Hb1]; · iexact Hb1
    iexact Hr1
  iintro ⟨HO, Hs1⟩
  iapply ret
  iapply Hk
  isplitl [HO]; · iexact HO
  isplitl [Hx]; · iexact Hx
  isplitl [Hz]; · iexact Hz
  isplitl [Hs0]; · iexact Hs0
  isplitl [Hs1]; · iexact Hs1
  isplitl [Hl2 Hl3 Hl4 Hl5 Hl6 Hl7]
  · isplitl [Hl2]; · iexact Hl2
    isplitl [Hl3]; · iexact Hl3
    isplitl [Hl4]; · iexact Hl4
    isplitl [Hl5]; · iexact Hl5
    isplitl [Hl6] <;> iassumption
  isplitl [Hb2] <;> iassumption

/-- The block is sent across; the second factor is stored; the first product; the left neighbour's block arrives. -/
theorem part5 (c : Dev nD) (v5 v12 v32 : BitVec 32) (Kt : F .f32 → sProp 𝕄) :
    iprop(env m ∗ Ow (F := F) c ∅ (copies 2) (others c) ∗ ready m c 2 ∗ wP c (wst m c) ∗ (∃ f, vP (F := F) c f)
        ∗ gP c (blk c) fullShare.right.right (XG m) ∗ o0 (F := F) c c ∗ rc0 c 0
        ∗ ((Ow (F := F) c ∅ (copies 3) (others c) ∗ sent c 2 ∗ wP c (wst m c) ∗ vP c (wv m c)
            ∗ gP c (blk c) fullShare.right.right (XG m) ∗ o1 m c c ∗ got m c 0) -∗ Kt (am0 m c)))
      ⊢ WP c (atBufs (k0_part5 (F := F)) c v5 v12 v32) Kt := by
  simp only [atBufs, k0_part5_eq_skeleton]; unfold k0_part5_skel am0
  simp only [Prog.lift, Prog.bind_op, Prog.bind_ret, Prog.pure_eq_ret]
  iintro ⟨#He, HO, Hs, Hw, ⟨%f, Hv⟩, Hb, Ho, Hr, Hk⟩
  iapply (step_send m c _ 2 (dev6 c) rfl rfl (copies 3) (others c) (copies_step 2) rfl (off2 c)) $$ [HO Hs]
  · isplitr; · iexact He
    isplitl [HO]; · iexact HO
    unfold ready; iexact Hs
  iintro ⟨HO, Hs⟩
  iapply (ld_w c (wst m c)) $$ Hw
  iintro Hw
  iapply (ld_v c f) $$ Hv
  iintro Hv
  iapply (st_v c (g := wv m c)) $$ Hv
  iintro Hv
  iapply (step_gemm m c c (off1 c) (off3 c) rfl) $$ [Hb Hv Ho]
  · isplitl [Hb]; · iexact Hb
    isplitl [Hv] <;> iassumption
  iintro ⟨Hb, Hv, Ho⟩
  iapply (step_recv m c 0 rfl (E := copies 3) (others_not c) (by decide) rfl) $$ [HO Hr]
  · isplitr; · iexact He
    isplitl [HO] <;> iassumption
  iintro ⟨HO, Hg⟩
  iapply ret
  iapply Hk
  isplitl [HO]; · iexact HO
  isplitl [Hs]; · iexact Hs
  isplitl [Hw]; · iexact Hw
  isplitl [Hv]; · iexact Hv
  isplitl [Hb]; · iexact Hb
  isplitl [Ho]; · iexact Ho
  unfold got; iexact Hg

/-- The left neighbour's block is sent on to the right (and, on an even place, across); the right neighbour's arrives. -/
theorem part6 (c : Dev nD) (v5 : BitVec 32) (v7 : BitVec 1) (v12 v24 : BitVec 32) (Kt : BitVec 32 → sProp 𝕄) :
    iprop(env m ∗ Ow (F := F) c ∅ (copies 3) (others c) ∗ ready m c 3 ∗ onEven c (ready m c 5) ∗ rc0 c 1
        ∗ (∀ w, (Ow (F := F) c ∅ (if even c = true then (copies 4).erase 5 else (copies 4)) (others c) ∗ sent c 3
            ∗ onEven c (sent (F := F) c 5) ∗ got m c 1) -∗ Kt w))
      ⊢ WP c (atBufs (k0_part6 (F := F)) c v5 v7 v12 v24) Kt := by
  simp only [atBufs, k0_part6_eq_skeleton]; unfold k0_part6_skel
  simp only [Prog.lift, Prog.bind_op, Prog.bind_ret, Prog.pure_eq_ret]
  iintro ⟨#He, HO, Hs, Hs5, Hr, Hk⟩
  iapply (step_send m c _ 3 (dev7 c) rfl rfl (copies 4) (others c) (copies_step 3) rfl (off4_0 c)) $$ [HO Hs]
  · isplitr; · iexact He
    isplitl [HO]; · iexact HO
    unfold ready; iexact Hs
  iintro ⟨HO, Hs⟩
  iapply (under (X := iprop(env m ∗ Ow (F := F) c ∅ (copies 4) (others c) ∗ onEven c (ready m c 5)))
      (Z := iprop(Ow (F := F) c ∅ (if even c = true then (copies 4).erase 5 else (copies 4)) (others c) ∗ onEven c (sent (F := F) c 5)))
      (cond1 c)
      (fun h hb => by
        rw [onEven_pos hb, onEven_pos hb, if_pos hb]
        iintro ⟨#He, HO, Hs⟩ Hk
        iapply (step_send m c _ 5 (dev8 c h) rfl rfl ((copies 4).erase 5) (others c) copies_five rfl (off5 c h)) $$ [HO Hs]
        · isplitr; · iexact He
          isplitl [HO]; · iexact HO
          unfold ready; iexact Hs
        iintro ⟨HO, Hs⟩
        iapply Hk
        isplitl [HO] <;> iassumption)
      (fun hb => by
        rw [onEven_neg hb, onEven_neg hb, if_neg hb]
        iintro ⟨-, H⟩; iexact H)) $$ [HO Hs5]
  · isplitr; · iexact He
    isplitl [HO] <;> iassumption
  iintro ⟨HO, Hs5⟩
  iapply (step_recv m c 1 rfl (E := if even c = true then (copies 4).erase 5 else copies 4) (others_not c) (by split <;> decide) rfl) $$ [HO Hr]
  · isplitr; · iexact He
    isplitl [HO] <;> iassumption
  iintro ⟨HO, Hg⟩
  iapply ret
  iapply Hk
  isplitl [HO]; · iexact HO
  isplitl [Hs]; · iexact Hs
  isplitl [Hs5]; · iexact Hs5
  unfold got; iexact Hg

/-- The right neighbour's block is sent on to the left (and, on an odd place, across); the block from across arrives. -/
theorem part7 (c : Dev nD) (v5 : BitVec 32) (v7 : BitVec 1) (v12 v17 v21 v24 v123 : BitVec 32)
    (Kt : (Σ' (v144 : BitVec 32) (v153 : BitVec 32), BitVec 1) → sProp 𝕄) :
    iprop(env m ∗ Ow (F := F) c ∅ (if even c = true then (copies 4).erase 5 else (copies 4)) (others c) ∗ ready m c 4
        ∗ (if even c = true then sent c 5 else ready m c 5) ∗ rc0 c 2
        ∗ (∀ (w : BitVec 32) (w' : BitVec 32) (b : BitVec 1), (Ow (F := F) c ∅ (copies 6) (others c) ∗ sent c 4 ∗ sent c 5 ∗ got m c 2) -∗ Kt ⟨w, w', b⟩))
      ⊢ WP c (atBufs (k0_part7 (F := F)) c v5 v7 v12 v17 v21 v24 v123) Kt := by
  simp only [atBufs, k0_part7_eq_skeleton]; unfold k0_part7_skel
  simp only [Prog.lift, Prog.bind_op, Prog.bind_ret, Prog.pure_eq_ret]
  iintro ⟨#He, HO, Hs, Hs5, Hr, Hk⟩
  iapply (step_send m c _ 4 (dev9 c) rfl rfl (if even c = true then copies 6 else copies 5) (others c) (copies_four _) rfl (off4_1 c)) $$ [HO Hs]
  · isplitr; · iexact He
    isplitl [HO]; · iexact HO
    unfold ready; iexact Hs
  iintro ⟨HO, Hs⟩
  iapply (under (X := iprop(env m ∗ Ow (F := F) c ∅ (if even c = true then (copies 6) else (copies 5)) (others c) ∗ (if even c = true then sent c 5 else ready m c 5)))
      (Z := iprop(Ow (F := F) c ∅ (copies 6) (others c) ∗ sent (F := F) c 5)) (cond2 c)
      (fun h hb => by
        rw [if_neg hb, if_neg hb]
        iintro ⟨#He, HO, Hs⟩ Hk
        iapply (step_send m c _ 5 (dev10 c h) rfl rfl (copies 6) (others c) copies_five' rfl (off6 c h)) $$ [HO Hs]
        · isplitr; · iexact He
          isplitl [HO]; · iexact HO
          unfold ready; iexact Hs
        iintro ⟨HO, Hs⟩
        iapply Hk
        isplitl [HO] <;> iassumption)
      (fun hb => by
        rw [if_pos (not_not.mp hb), if_pos (not_not.mp hb)]
        iintro ⟨-, H⟩; iexact H)) $$ [HO Hs5]
  · isplitr; · iexact He
    isplitl [HO] <;> iassumption
  iintro ⟨HO, Hs5⟩
  iapply (step_recv m c 2 rfl (E := copies 6) (others_not c) (by decide) rfl) $$ [HO Hr]
  · isplitr; · iexact He
    isplitl [HO] <;> iassumption
  iintro ⟨HO, Hg⟩
  iapply ret
  iapply Hk
  isplitl [HO]; · iexact HO
  isplitl [Hs]; · iexact Hs
  isplitl [Hs5]; · iexact Hs5
  unfold got; iexact Hg

/-- The product with the left neighbour's block; the right neighbour's is loaded. -/
theorem part8 (c : Dev nD) (v5 v153 : BitVec 32) (v154 : BitVec 1)
    (Kt : (Σ' (v176 : F .f32) (v185 : Vec F S512x4096 .bf16) (v188 : BitVec 32), BitVec 32) → sProp 𝕄) :
    iprop(gP c (blk (org c 0)) fullShare.right.right (XG m) ∗ gP c (blk (org c 1)) fullShare.right.right (XG m) ∗ vP c (wv m c) ∗ o0 (F := F) c (org c 0)
        ∗ (∀ (w : BitVec 32) (w' : BitVec 32), (gP c (blk (org c 0)) fullShare.right.right (XG m) ∗ gP c (blk (org c 1)) fullShare.right.right (XG m) ∗ vP c (wv m c) ∗ o1 m c (org c 0))
            -∗ Kt ⟨am1 m c, xblk m (org c 1), w, w'⟩))
      ⊢ WP c (atBufs (k0_part8 (F := F)) c v5 (am0 m c) v153 v154) Kt := by
  simp only [atBufs, k0_part8_eq_skeleton]; unfold k0_part8_skel am1
  simp only [Prog.lift, Prog.bind_op, Prog.bind_ret, Prog.pure_eq_ret]
  iintro ⟨Hg, Hg', Hv, Ho, Hk⟩
  iapply (step_gemm m c (org c 0) (off8_0 c) (off9_0 c) rfl) $$ [Hg Hv Ho]
  · isplitl [Hg]; · iexact Hg
    isplitl [Hv] <;> iassumption
  iintro ⟨Hg, Hv, Ho⟩
  iapply (ld_g m c (org c 1) (off8_1 c)) $$ Hg'
  iintro Hg'
  iapply ret
  iapply Hk
  isplitl [Hg]; · iexact Hg
  isplitl [Hg']; · iexact Hg'
  isplitl [Hv] <;> iassumption

/-- The products with the right neighbour's block and the one from across. -/
theorem part9 (c : Dev nD) (v5 v12 v144 w w' : BitVec 32) (Kt : F .f32 → sProp 𝕄) :
    iprop(gP c (blk (org c 2)) fullShare (XG m) ∗ vP c (wv m c) ∗ o0 (F := F) c (org c 1) ∗ o0 (F := F) c (org c 2)
        ∗ ((gP c (blk (org c 2)) fullShare (XG m) ∗ vP c (wv m c) ∗ o1 m c (org c 1) ∗ o1 m c (org c 2)) -∗ Kt (am3 m c)))
      ⊢ WP c (atBufs (k0_part9 (F := F)) c v5 v12 v144 (am1 m c) (xblk m (org c 1)) w w') Kt := by
  simp only [atBufs, k0_part9_eq_skeleton]; unfold k0_part9_skel am3
  simp only [Prog.lift, Prog.bind_op, Prog.bind_ret, Prog.pure_eq_ret]
  unfold o0
  iintro ⟨Hg, Hv, ⟨%f, Ho⟩, Ho', Hk⟩
  iapply (ld_v c (wv m c)) $$ Hv
  iintro Hv
  iapply (ld_o' c (org c 1) (off9_1 c)) $$ Ho
  iintro %_ Ho
  iapply (st_o m c (org c 1) (off9_1 c) rfl) $$ Ho
  iintro Ho
  iapply (step_gemm m c (org c 2) (off10 c) (off11 c) rfl) $$ [Hg Hv Ho']
  · isplitl [Hg]; · iexact Hg
    isplitl [Hv]; · iexact Hv
    unfold o0; iexact Ho'
  iintro ⟨Hg, Hv, Ho'⟩
  iapply ret
  iapply Hk
  isplitl [Hg]; · iexact Hg
  isplitl [Hv]; · iexact Hv
  isplitl [Ho] <;> iassumption

end Cert.GatherQuant
-- ==== Proof.Forward.lean ====
/- The middle pieces of the body: two blocks are sent on by halves, the remaining blocks arrive and are multiplied, and
   the device waits for its own copies to have left. -/
module

public import proofs.«01_k».proof.Proof.Gather

@[expose] public section

noncomputable section

namespace Cert.GatherQuant

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Halves of blocks -/

/-- The upper and the lower half of the rows of a block. -/
def rowsU (s : Dev nD) : Finset S4096x4096.Idx := rows (512 * s.val) 256
def rowsL (s : Dev nD) : Finset S4096x4096.Idx := rows (512 * s.val + 256) 256

theorem halves (c s : Dev nD) (q : PosShare TreeShare) :
    gP c (blk s) q (XG m) ⊢ iprop(gP c (rowsU s) q (XG m) ∗ gP c (rowsL s) q (XG m)) := by
  unfold gP
  rw [show (blk s : Finset S4096x4096.Idx) = rowsU s ∪ rowsL s from rows_add (512 * s.val) 256 256]
  exact (pointsTo_union (rows_disjoint (Or.inl (Nat.le_refl _)))).1
theorem unhalves (c s : Dev nD) (q : PosShare TreeShare) :
    iprop(gP c (rowsU s) q (XG m) ∗ gP c (rowsL s) q (XG m)) ⊢ gP c (blk s) q (XG m) := by
  unfold gP
  rw [show (blk s : Finset S4096x4096.Idx) = rowsU s ∪ rowsL s from rows_add (512 * s.val) 256 256]
  exact (pointsTo_union (rows_disjoint (Or.inl (Nat.le_refl _)))).2

theorem outR_six (c : Dev nD) : outR c 6 = rowsU (org c 3) := rfl
theorem outR_seven (c : Dev nD) : outR c 7 = rowsL (org c 4) := rfl
theorem inR_six (c : Dev nD) : inR c 6 = rowsU (far c) := rfl
theorem inR_seven (c : Dev nD) : inR c 7 = rowsL (far c) := rfl

/-! ## What arrives and is sent on -/

/-- One right out of a set of them. -/
theorem rights_insert (p c : Dev nD) {S T : Finset (Dev nD)} (h : S = insert c T) (hc : c ∉ T) :
    rights (F := F) p S ⊢ iprop(right p c ∗ rights p T) := by
  unfold rights
  rw [h, bigSep_insert hc]; exact .rfl
theorem rights_one (p c : Dev nD) {S : Finset (Dev nD)} (h : S = {c}) : rights (F := F) p S ⊢ right p c := by
  unfold rights
  rw [h, bigSep_singleton]

theorem fwd_three (c : Dev nD) :
    got m c 3 ⊢ iprop(right (F := F) (org c 3) c ∗ zeroK c (rcvK c 3)
      ∗ (gP c (outR c 6) (shareE 6) (XG m) ∗ rights (F := F) (sorg c 6) (R 6 (sorg c 6)))
      ∗ gP c (blk (org c 3)) fullShare.right (XG m) ∗ gP c (rowsL (org c 3)) fullShare.left (XG m)) := by
  unfold got
  rw [inR_whole c 3 (by decide), outR_six]
  iintro ⟨Hg, Hr, Hz⟩
  ihave Hr := (rights_insert (F := F) (org c 3) c (R_three c).1 (R_three c).2) $$ Hr
  icases Hr with ⟨Hr, Hrs⟩
  ihave Hg := (share2 m c (blk (org c 3)) fullShare) $$ Hg
  icases Hg with ⟨Hl, Hg⟩
  ihave Hl := (halves m c (org c 3) fullShare.left) $$ Hl
  icases Hl with ⟨Hu, Hl⟩
  isplitl [Hr]; · iexact Hr
  isplitl [Hz]; · iexact Hz
  isplitl [Hu Hrs]
  · isplitl [Hu]; · iexact Hu
    iexact Hrs
  isplitl [Hg] <;> iassumption

theorem fwd_four (c : Dev nD) :
    got m c 4 ⊢ iprop(right (F := F) (org c 4) c ∗ zeroK c (rcvK c 4)
      ∗ (gP c (outR c 7) (shareE 7) (XG m) ∗ rights (F := F) (sorg c 7) (R 7 (sorg c 7)))
      ∗ gP c (blk (org c 4)) fullShare.right (XG m) ∗ gP c (rowsU (org c 4)) fullShare.left (XG m)) := by
  unfold got
  rw [inR_whole c 4 (by decide), outR_seven, (R_last c).2.2.2.2.2]
  iintro ⟨Hg, Hr, Hz⟩
  ihave Hr := (rights_one (F := F) (org c 4) c (R_last c).2.1) $$ Hr
  ihave Hg := (share2 m c (blk (org c 4)) fullShare) $$ Hg
  icases Hg with ⟨Hl, Hg⟩
  ihave Hl := (halves m c (org c 4) fullShare.left) $$ Hl
  icases Hl with ⟨Hu, Hl⟩
  isplitl [Hr]; · iexact Hr
  isplitl [Hz]; · iexact Hz
  isplitl [Hl]
  · isplitl [Hl]; · iexact Hl
    unfold rights; rw [bigSep_empty]; iempintro
  isplitl [Hg] <;> iassumption

theorem keep_five (c : Dev nD) :
    got m c 5 ⊢ iprop(gP c (blk (org c 5)) fullShare (XG m) ∗ right (F := F) (org c 5) c ∗ zeroK c (rcvK c 5)) := by
  unfold got
  rw [inR_whole c 5 (by decide)]
  iintro ⟨Hg, Hr, Hz⟩
  ihave Hr := (rights_one (F := F) (org c 5) c (R_last c).2.2.1) $$ Hr
  isplitl [Hg]; · iexact Hg
  isplitl [Hr] <;> iassumption

theorem keep_far (c : Dev nD) :
    iprop(got m c 6 ∗ got m c 7) ⊢ iprop(gP c (blk (far c)) fullShare (XG m) ∗ right (F := F) (far c) c
      ∗ zeroK c (rcvK c 6) ∗ zeroK c (rcvK c 7)) := by
  unfold got
  rw [inR_six, inR_seven]
  iintro ⟨⟨Hg, Hr, Hz⟩, ⟨Hg', -, Hz'⟩⟩
  ihave Hr := (rights_one (F := F) (org c 6) c (R_last c).2.2.2.1) $$ Hr
  isplitl [Hg Hg']
  · iapply (unhalves m c (far c) fullShare)
    isplitl [Hg] <;> iassumption
  isplitl [Hr]; · iexact Hr
  isplitl [Hz] <;> iassumption

theorem copies_six : 6 ∉ copies 7 ∧ copies 6 = insert 6 (copies 7) := by decide
theorem copies_seven : 7 ∉ copies 8 ∧ copies 7 = insert 7 (copies 8) := by decide

/-! ## Offsets, conditions and semaphores -/

theorem off8_2 : ∀ c : Dev nD, k0_off8 c 4294967294#32 = ![512 * (org c 3).val, 0] := by decide +kernel
theorem off8_3 : ∀ c : Dev nD, k0_off8 c 2#32 = ![512 * (org c 4).val, 0] := by decide +kernel
theorem off8_4 : ∀ c : Dev nD, k0_off8 c 4#32 = ![512 * (org c 5).val, 0] := by decide +kernel
theorem off9_2 : ∀ c : Dev nD, k0_off9 c 4294967294#32 = ![512 * (org c 3).val, 0] := by decide +kernel
theorem off9_3 : ∀ c : Dev nD, k0_off9 c 2#32 = ![512 * (org c 4).val, 0] := by decide +kernel
theorem off9_4 : ∀ c : Dev nD, k0_off9 c 4#32 = ![512 * (org c 5).val, 0] := by decide +kernel
theorem off12 : ∀ c : Dev nD, k0_cond3 c = 1#1 → k0_off12 c = ![lo (sorg c 6) 6, 0] := by decide +kernel
theorem off13 : ∀ c : Dev nD, k0_cond4 c = 1#1 → k0_off13 c = ![lo (sorg c 6) 6, 0] := by decide +kernel
theorem off14 : ∀ c : Dev nD, k0_cond5 c = 1#1 → k0_off14 c = ![lo (sorg c 7) 7, 0] := by decide +kernel
theorem off15 : ∀ c : Dev nD, k0_cond6 c = 1#1 → k0_off15 c = ![lo (sorg c 7) 7, 0] := by decide +kernel
theorem off20 : ∀ c : Dev nD, k0_off20 c = ![512 * (far c).val, 0] := by decide +kernel
theorem off21 : ∀ c : Dev nD, k0_off21 c = ![512 * (far c).val, 0] := by decide +kernel
theorem cond3 : ∀ c : Dev nD, k0_cond3 c = 1#1 ↔ even c = true := by decide +kernel
theorem cond4 : ∀ c : Dev nD, k0_cond4 c = 1#1 ↔ ¬ even c = true := by decide +kernel
theorem cond5 : ∀ c : Dev nD, k0_cond5 c = 1#1 ↔ even c = true := by decide +kernel
theorem cond6 : ∀ c : Dev nD, k0_cond6 c = 1#1 ↔ ¬ even c = true := by decide +kernel
theorem cond7 : ∀ c : Dev nD, k0_cond7 c = 1#1 ↔ even c = true := by decide +kernel
theorem cond8 : ∀ c : Dev nD, k0_cond8 c = 1#1 ↔ ¬ even c = true := by decide +kernel
theorem cond9 : ∀ c : Dev nD, k0_cond9 c = 1#1 ↔ even c = true := by decide +kernel
theorem cond10 : ∀ c : Dev nD, k0_cond10 c = 1#1 ↔ ¬ even c = true := by decide +kernel

/-- The semaphores of the two half copies, on even and on odd places. -/
theorem sems_even : ∀ c : Dev nD, even c = true → (17 : DmaSem sig) = sndK c 6 ∧ (20 : DmaSem sig) = rcvK (tgt c 6) 6
    ∧ (11 : DmaSem sig) = sndK c 7 ∧ (14 : DmaSem sig) = rcvK (tgt c 7) 7 ∧ (8 : DmaSem sig) = rcvK c 6
    ∧ (20 : DmaSem sig) = rcvK c 7 := by decide +kernel
theorem sems_odd : ∀ c : Dev nD, ¬ even c = true → (5 : DmaSem sig) = sndK c 6 ∧ (8 : DmaSem sig) = rcvK (tgt c 6) 6
    ∧ (17 : DmaSem sig) = sndK c 7 ∧ (20 : DmaSem sig) = rcvK (tgt c 7) 7 ∧ (20 : DmaSem sig) = rcvK c 6
    ∧ (14 : DmaSem sig) = rcvK c 7 := by decide +kernel

attribute [local irreducible] k0_off2 k0_off4 k0_off8 k0_off9 k0_off12 k0_off13 k0_off14 k0_off15 k0_off16 k0_off17 k0_off18
  k0_off19 k0_off20 k0_off21 k0_off22 k0_off23 k0_off24 k0_off25 k0_off26 k0_off27 k0_cond3 k0_cond4 k0_cond5 k0_cond6
  k0_cond7 k0_cond8 k0_cond9 k0_cond10

/-! ## The pieces -/

/-- The blocks two places off arrive; half of each is sent on. -/
theorem part10 (c : Dev nD) (v5 : BitVec 32) (v7 : BitVec 1) (v12 v17 v24 : BitVec 32)
    (Kt : (Σ' (v253 : BitVec 32), BitVec 32) → sProp 𝕄) :
    iprop(env m ∗ Ow (F := F) c ∅ (copies 6) (others c) ∗ rc0 c 3 ∗ rc0 c 4 ∗ (cp0 c 6 ∗ land c 6) ∗ (cp0 c 7 ∗ land c 7)
        ∗ (∀ (w : BitVec 32) (w' : BitVec 32), (Ow (F := F) c ∅ ∅ (others c) ∗ sent c 6 ∗ sent c 7
            ∗ (right (F := F) (org c 3) c ∗ zeroK c (rcvK c 3) ∗ gP c (blk (org c 3)) fullShare.right (XG m)
                ∗ gP c (rowsL (org c 3)) fullShare.left (XG m))
            ∗ (right (F := F) (org c 4) c ∗ zeroK c (rcvK c 4) ∗ gP c (blk (org c 4)) fullShare.right (XG m)
                ∗ gP c (rowsU (org c 4)) fullShare.left (XG m))) -∗ Kt ⟨w, w'⟩))
      ⊢ WP c (atBufs (k0_part10 (F := F)) c v5 v7 v12 v17 v24) Kt := by
  simp only [atBufs, k0_part10_eq_skeleton]; unfold k0_part10_skel
  simp only [Prog.lift, Prog.bind_op, Prog.bind_ret, Prog.pure_eq_ret]
  iintro ⟨#He, HO, Hr3, Hr4, ⟨Hc6, Hl6⟩, ⟨Hc7, Hl7⟩, Hk⟩
  iapply (step_recv m c 3 rfl (E := copies 6) (others_not c) (by decide) rfl) $$ [HO Hr3]
  · isplitr; · iexact He
    isplitl [HO] <;> iassumption
  iintro ⟨HO, Hg⟩
  ihave Hg := (fwd_three m c) $$ [Hg]
  · unfold got; iexact Hg
  icases Hg with ⟨Hr, Hz, ⟨Hs, Hrs⟩, Hb⟩
  iapply (both (X := iprop(env m ∗ Ow (F := F) c ∅ (copies 6) (others c) ∗ cp0 c 6 ∗ land c 6
        ∗ gP c (outR c 6) (shareE 6) (XG m) ∗ rights (F := F) (sorg c 6) (R 6 (sorg c 6))))
      (Z := iprop(Ow (F := F) c ∅ (copies 7) (others c) ∗ sent (F := F) c 6)) (cond3 c) (cond4 c)
      (fun h => by
        obtain ⟨h₁, h₂, -⟩ := sems_even c ((cond3 c).mp h)
        iintro H Hk
        iapply (step_send m c _ 6 (dev11 c h) h₁ h₂ (copies 7) (others c) copies_six rfl (off12 c h)) $$ H
        iexact Hk)
      (fun h => by
        obtain ⟨h₁, h₂, -⟩ := sems_odd c ((cond4 c).mp h)
        iintro H Hk
        iapply (step_send m c _ 6 (dev12 c h) h₁ h₂ (copies 7) (others c) copies_six rfl (off13 c h)) $$ H
        iexact Hk)) $$ [HO Hc6 Hl6 Hs Hrs]
  · isplitr; · iexact He
    isplitl [HO]; · iexact HO
    isplitl [Hc6]; · iexact Hc6
    isplitl [Hl6]; · iexact Hl6
    isplitl [Hs] <;> iassumption
  iintro ⟨HO, Hs6⟩
  iapply (step_recv m c 4 rfl (E := copies 7) (others_not c) (by decide) rfl) $$ [HO Hr4]
  · isplitr; · iexact He
    isplitl [HO] <;> iassumption
  iintro ⟨HO, Hg⟩
  ihave Hg := (fwd_four m c) $$ [Hg]
  · unfold got; iexact Hg
  icases Hg with ⟨Hr', Hz', ⟨Hs, Hrs⟩, Hb'⟩
  iapply (both (X := iprop(env m ∗ Ow (F := F) c ∅ (copies 7) (others c) ∗ cp0 c 7 ∗ land c 7
        ∗ gP c (outR c 7) (shareE 7) (XG m) ∗ rights (F := F) (sorg c 7) (R 7 (sorg c 7))))
      (Z := iprop(Ow (F := F) c ∅ (copies 8) (others c) ∗ sent (F := F) c 7)) (cond5 c) (cond6 c)
      (fun h => by
        obtain ⟨-, -, h₁, h₂, -⟩ := sems_even c ((cond5 c).mp h)
        iintro H Hk
        iapply (step_send m c _ 7 (dev13 c h) h₁ h₂ (copies 8) (others c) copies_seven rfl (off14 c h)) $$ H
        iexact Hk)
      (fun h => by
        obtain ⟨-, -, h₁, h₂, -⟩ := sems_odd c ((cond6 c).mp h)
        iintro H Hk
        iapply (step_send m c _ 7 (dev14 c h) h₁ h₂ (copies 8) (others c) copies_seven rfl (off15 c h)) $$ H
        iexact Hk)) $$ [HO Hc7 Hl7 Hs Hrs]
  · isplitr; · iexact He
    isplitl [HO]; · iexact HO
    isplitl [Hc7]; · iexact Hc7
    isplitl [Hl7]; · iexact Hl7
    isplitl [Hs] <;> iassumption
  rw [show copies 8 = ∅ from by decide]
  iintro ⟨HO, Hs7⟩
  iapply ret
  iapply Hk
  isplitl [HO]; · iexact HO
  isplitl [Hs6]; · iexact Hs6
  isplitl [Hs7]; · iexact Hs7
  isplitl [Hr Hz Hb]
  · isplitl [Hr]; · iexact Hr
    isplitl [Hz] <;> iassumption
  isplitl [Hr']; · iexact Hr'
  isplitl [Hz'] <;> iassumption

/-- The last whole block arrives; the product with the block two places to the left. -/
theorem part11 (c : Dev nD) (v5 v12 w w' : BitVec 32) (Kt : FVec F S1x512x256 .f32 → sProp 𝕄) :
    iprop(env m ∗ Ow (F := F) c ∅ ∅ (others c) ∗ rc0 c 5 ∗ gP c (blk (org c 3)) fullShare.right (XG m) ∗ vP c (wv m c) ∗ o0 (F := F) c (org c 3)
        ∗ ((Ow (F := F) c ∅ ∅ (others c) ∗ (gP c (blk (org c 5)) fullShare (XG m) ∗ right (F := F) (org c 5) c ∗ zeroK c (rcvK c 5))
            ∗ gP c (blk (org c 3)) fullShare.right (XG m) ∗ vP c (wv m c) ∗ o1 m c (org c 3))
          -∗ Kt (k0_pay12 (xblk m (org c 3)) (wv m c))))
      ⊢ WP c (atBufs (k0_part11 (F := F)) c v5 v12 w w') Kt := by
  simp only [atBufs, k0_part11_eq_skeleton]; unfold k0_part11_skel
  simp only [Prog.lift, Prog.bind_op, Prog.bind_ret, Prog.pure_eq_ret]
  iintro ⟨#He, HO, Hr, Hg, Hv, Ho, Hk⟩
  iapply (step_recv m c 5 rfl (E := ∅) (others_not c) (by decide) rfl) $$ [HO Hr]
  · isplitr; · iexact He
    isplitl [HO] <;> iassumption
  iintro ⟨HO, Hg5⟩
  ihave Hg5 := (keep_five m c) $$ [Hg5]
  · unfold got; iexact Hg5
  iapply (step_gemm m c (org c 3) (off8_2 c) (off9_2 c) rfl) $$ [Hg Hv Ho]
  · isplitl [Hg]; · iexact Hg
    isplitl [Hv] <;> iassumption
  iintro ⟨Hg, Hv, Ho⟩
  iapply ret
  iapply Hk
  isplitl [HO]; · iexact HO
  isplitl [Hg5]; · iexact Hg5
  isplitl [Hg]; · iexact Hg
  isplitl [Hv] <;> iassumption

/-- The product with the block two places to the right. -/
theorem part12 (c : Dev nD) (v5 : BitVec 32) (Kt : (Σ' (v315 : F .f32), BitVec 32) → sProp 𝕄) :
    iprop(gP c (blk (org c 4)) fullShare.right (XG m) ∗ vP c (wv m c) ∗ o0 (F := F) c (org c 4)
        ∗ (∀ w : BitVec 32, (gP c (blk (org c 4)) fullShare.right (XG m) ∗ vP c (wv m c) ∗ o1 m c (org c 4)) -∗ Kt ⟨am5 m c, w⟩))
      ⊢ WP c (atBufs (k0_part12 (F := F)) c v5 (am3 m c) (k0_pay12 (xblk m (org c 3)) (wv m c))) Kt := by
  simp only [atBufs, k0_part12_eq_skeleton]; unfold k0_part12_skel am5
  simp only [Prog.lift, Prog.bind_op, Prog.bind_ret, Prog.pure_eq_ret]
  iintro ⟨Hg, Hv, Ho, Hk⟩
  iapply (step_gemm m c (org c 4) (off8_3 c) (off9_3 c) rfl) $$ [Hg Hv Ho]
  · isplitl [Hg]; · iexact Hg
    isplitl [Hv] <;> iassumption
  iintro H
  iapply ret
  iapply Hk
  iexact H

/-- The product with the last whole block. -/
theorem part13 (c : Dev nD) (v5 w : BitVec 32) (Kt : (Σ' (v341 : F .f32) (v348 : BitVec 32), BitVec 32) → sProp 𝕄) :
    iprop(gP c (blk (org c 5)) fullShare (XG m) ∗ vP c (wv m c) ∗ o0 (F := F) c (org c 5)
        ∗ (∀ (w : BitVec 32) (w' : BitVec 32), (gP c (blk (org c 5)) fullShare (XG m) ∗ vP c (wv m c) ∗ o1 m c (org c 5)) -∗ Kt ⟨am6 m c, w, w'⟩))
      ⊢ WP c (atBufs (k0_part13 (F := F)) c v5 (am5 m c) w) Kt := by
  simp only [atBufs, k0_part13_eq_skeleton]; unfold k0_part13_skel am6
  simp only [Prog.lift, Prog.bind_op, Prog.bind_ret, Prog.pure_eq_ret]
  iintro ⟨Hg, Hv, Ho, Hk⟩
  iapply (step_gemm m c (org c 5) (off8_4 c) (off9_4 c) rfl) $$ [Hg Hv Ho]
  · isplitl [Hg]; · iexact Hg
    isplitl [Hv] <;> iassumption
  iintro H
  iapply ret
  iapply Hk
  iexact H

/-- The two halves of the last block arrive, the last product, and the first three copies have left. -/
theorem part14 (c : Dev nD) (v7 : BitVec 1) (v12 w w' : BitVec 32) (Kt : F .f32 → sProp 𝕄) :
    iprop(env m ∗ Ow (F := F) c ∅ ∅ (others c) ∗ rc0 c 6 ∗ rc0 c 7 ∗ vP c (wv m c) ∗ o0 (F := F) c (far c) ∗ sent c 0 ∗ sent c 1 ∗ sent c 2
        ∗ ((Ow (F := F) c ∅ ∅ (others c) ∗ (gP c (blk (far c)) fullShare (XG m) ∗ right (F := F) (far c) c
              ∗ zeroK c (rcvK c 6) ∗ zeroK c (rcvK c 7)) ∗ vP c (wv m c) ∗ o1 m c (far c) ∗ left m c 0 ∗ left m c 1 ∗ left m c 2)
          -∗ Kt (am7 m c)))
      ⊢ WP c (atBufs (k0_part14 (F := F)) c v7 v12 (am6 m c) w w') Kt := by
  simp only [atBufs, k0_part14_eq_skeleton]; unfold k0_part14_skel am7
  simp only [Prog.lift, Prog.bind_op, Prog.bind_ret, Prog.pure_eq_ret]
  iintro ⟨#He, HO, Hr6, Hr7, Hv, Ho, Hs0, Hs1, Hs2, Hk⟩
  iapply (both (X := iprop(env m ∗ Ow (F := F) c ∅ ∅ (others c) ∗ rc0 c 6 ∗ rc0 c 7))
      (Z := iprop(Ow (F := F) c ∅ ∅ (others c) ∗ got m c 6 ∗ got m c 7)) (cond7 c) (cond8 c)
      (fun h => by
        obtain ⟨-, -, -, -, h₁, h₂⟩ := sems_even c ((cond7 c).mp h)
        iintro ⟨#He, HO, Hr6, Hr7⟩ Hk
        iapply (step_recv m c 6 h₁ (E := ∅) (others_not c) (by decide) rfl) $$ [HO Hr6]
        · isplitr; · iexact He
          isplitl [HO] <;> iassumption
        iintro ⟨HO, Hg6⟩
        iapply (step_recv m c 7 h₂ (E := ∅) (others_not c) (by decide) rfl) $$ [HO Hr7]
        · isplitr; · iexact He
          isplitl [HO] <;> iassumption
        iintro ⟨HO, Hg7⟩
        iapply Hk
        unfold got
        isplitl [HO]; · iexact HO
        isplitl [Hg6] <;> iassumption)
      (fun h => by
        obtain ⟨-, -, -, -, h₁, h₂⟩ := sems_odd c ((cond8 c).mp h)
        iintro ⟨#He, HO, Hr6, Hr7⟩ Hk
        iapply (step_recv m c 6 h₁ (E := ∅) (others_not c) (by decide) rfl) $$ [HO Hr6]
        · isplitr; · iexact He
          isplitl [HO] <;> iassumption
        iintro ⟨HO, Hg6⟩
        iapply (step_recv m c 7 h₂ (E := ∅) (others_not c) (by decide) rfl) $$ [HO Hr7]
        · isplitr; · iexact He
          isplitl [HO] <;> iassumption
        iintro ⟨HO, Hg7⟩
        iapply Hk
        unfold got
        isplitl [HO]; · iexact HO
        isplitl [Hg6] <;> iassumption)) $$ [HO Hr6 Hr7]
  · isplitr; · iexact He
    isplitl [HO]; · iexact HO
    isplitl [Hr6] <;> iassumption
  iintro ⟨HO, Hg⟩
  ihave Hg := (keep_far m c) $$ Hg
  icases Hg with ⟨Hg, Hz⟩
  iapply (step_gemm m c (far c) (off20 c) (off21 c) rfl) $$ [Hg Hv Ho]
  · isplitl [Hg]; · iexact Hg
    isplitl [Hv] <;> iassumption
  iintro ⟨Hg, Hv, Ho⟩
  iapply (step_sent m c 0 rfl (others_not c) rfl) $$ [HO Hs0]
  · isplitr; · iexact He
    isplitl [HO] <;> iassumption
  iintro ⟨HO, Hs0⟩
  iapply (step_sent m c 1 rfl (others_not c) rfl) $$ [HO Hs1]
  · isplitr; · iexact He
    isplitl [HO] <;> iassumption
  iintro ⟨HO, Hs1⟩
  iapply (step_sent m c 2 rfl (others_not c) rfl) $$ [HO Hs2]
  · isplitr; · iexact He
    isplitl [HO] <;> iassumption
  iintro ⟨HO, Hs2⟩
  iapply ret
  iapply Hk
  unfold left
  isplitl [HO]; · iexact HO
  isplitl [Hg Hz]
  · isplitl [Hg] <;> iassumption
  isplitl [Hv]; · iexact Hv
  isplitl [Ho]; · iexact Ho
  isplitl [Hs0]; · iexact Hs0
  isplitl [Hs1] <;> iassumption

/-- The remaining copies have left. -/
theorem part15 (c : Dev nD) (v5 : BitVec 32) (v7 : BitVec 1)
    (Kt : (Σ' (v413 : FVec F S1x128 .f32), Vec F S1x128 .f32) → sProp 𝕄) :
    iprop(env m ∗ Ow (F := F) c ∅ ∅ (others c) ∗ (∃ f, aP (F := F) c fullShare f) ∗ sent c 3 ∗ sent c 4 ∗ sent c 5 ∗ sent c 6 ∗ sent c 7
        ∗ (∀ w, (Ow (F := F) c ∅ ∅ (others c) ∗ (∃ f, aP (F := F) c fullShare f) ∗ left m c 3 ∗ left m c 4 ∗ left m c 5 ∗ left m c 6 ∗ left m c 7)
          -∗ Kt ⟨k0_pay19 (am7 m c), w⟩))
      ⊢ WP c (atBufs (k0_part15 (F := F)) c v5 v7 (am7 m c)) Kt := by
  simp only [atBufs, k0_part15_eq_skeleton]; unfold k0_part15_skel
  simp only [k0_part1_eq_skeleton, k0_part2_eq_skeleton]; unfold k0_part1_skel k0_part2_skel
  simp only [Prog.lift, Prog.bind_op, Prog.bind_ret, Prog.pure_eq_ret]
  iintro ⟨#He, HO, ⟨%f, Ha⟩, Hs3, Hs4, Hs5, Hs6, Hs7, Hk⟩
  iapply (step_sent m c 3 rfl (others_not c) rfl) $$ [HO Hs3]
  · isplitr; · iexact He
    isplitl [HO] <;> iassumption
  iintro ⟨HO, Hs3⟩
  iapply (step_sent m c 4 rfl (others_not c) rfl) $$ [HO Hs4]
  · isplitr; · iexact He
    isplitl [HO] <;> iassumption
  iintro ⟨HO, Hs4⟩
  iapply (both (X := iprop(env m ∗ Ow (F := F) c ∅ ∅ (others c) ∗ sent c 5 ∗ sent c 6 ∗ sent c 7))
      (Z := iprop(Ow (F := F) c ∅ ∅ (others c) ∗ left m c 5 ∗ left m c 6 ∗ left m c 7)) (cond9 c) (cond10 c)
      (fun h => by
        obtain ⟨h₁, -, h₂, -⟩ := sems_even c ((cond9 c).mp h)
        iintro ⟨#He, HO, Hs5, Hs6, Hs7⟩ Hk
        iapply (step_sent m c 5 rfl (others_not c) rfl) $$ [HO Hs5]
        · isplitr; · iexact He
          isplitl [HO] <;> iassumption
        iintro ⟨HO, Hs5⟩
        iapply (step_sent m c 6 h₁ (others_not c) rfl) $$ [HO Hs6]
        · isplitr; · iexact He
          isplitl [HO] <;> iassumption
        iintro ⟨HO, Hs6⟩
        iapply (step_sent m c 7 h₂ (others_not c) rfl) $$ [HO Hs7]
        · isplitr; · iexact He
          isplitl [HO] <;> iassumption
        iintro ⟨HO, Hs7⟩
        iapply Hk
        unfold left
        isplitl [HO]; · iexact HO
        isplitl [Hs5]; · iexact Hs5
        isplitl [Hs6] <;> iassumption)
      (fun h => by
        obtain ⟨h₁, -, h₂, -⟩ := sems_odd c ((cond10 c).mp h)
        iintro ⟨#He, HO, Hs5, Hs6, Hs7⟩ Hk
        iapply (step_sent m c 5 rfl (others_not c) rfl) $$ [HO Hs5]
        · isplitr; · iexact He
          isplitl [HO] <;> iassumption
        iintro ⟨HO, Hs5⟩
        iapply (step_sent m c 6 h₁ (others_not c) rfl) $$ [HO Hs6]
        · isplitr; · iexact He
          isplitl [HO] <;> iassumption
        iintro ⟨HO, Hs6⟩
        iapply (step_sent m c 7 h₂ (others_not c) rfl) $$ [HO Hs7]
        · isplitr; · iexact He
          isplitl [HO] <;> iassumption
        iintro ⟨HO, Hs7⟩
        iapply Hk
        unfold left
        isplitl [HO]; · iexact HO
        isplitl [Hs5]; · iexact Hs5
        isplitl [Hs6] <;> iassumption)) $$ [HO Hs5 Hs6 Hs7]
  · isplitr; · iexact He
    isplitl [HO]; · iexact HO
    isplitl [Hs5]; · iexact Hs5
    isplitl [Hs6] <;> iassumption
  iintro ⟨HO, Hs⟩
  iapply (ld_a c f) $$ Ha
  iintro Ha
  iapply ret
  iapply Hk
  unfold left
  isplitl [HO]; · iexact HO
  isplitl [Ha]; · iexists f; iexact Ha
  isplitl [Hs3]; · iexact Hs3
  isplitl [Hs4] <;> iassumption

end Cert.GatherQuant
-- ==== Proof.Shares.lean ====
/- What a device's buffers are dealt out as at the start, what comes of a block that arrives, and how everything is put
   together again at the end. -/
module

public import proofs.«01_k».proof.Proof.Forward

@[expose] public section

noncomputable section

namespace Cert.GatherQuant

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The devices, the blocks and the rows one by one -/

/-- The device itself, then the others in the order their blocks arrive. -/
theorem all8 (c : Dev nD) (Φ : Dev nD → sProp 𝕄) : (bigSep Finset.univ Φ : sProp 𝕄)
    = iprop(Φ c ∗ Φ (org c 0) ∗ Φ (org c 1) ∗ Φ (org c 2) ∗ Φ (org c 3) ∗ Φ (org c 4) ∗ Φ (org c 5) ∗ Φ (far c)) := by
  rw [bigSep_univ_eq_bigSepL [c, org c 0, org c 1, org c 2, org c 3, org c 4, org c 5, far c]
    (by revert c; decide +kernel) (by revert c; decide +kernel)]
  rfl
theorem others7 (c : Dev nD) (Φ : Dev nD → sProp 𝕄) : (bigSep (others c) Φ : sProp 𝕄)
    = iprop(Φ (org c 0) ∗ Φ (org c 1) ∗ Φ (org c 2) ∗ Φ (org c 3) ∗ Φ (org c 4) ∗ Φ (org c 5) ∗ Φ (far c)) := by
  rw [bigSep_eq_bigSepL_of_eq [org c 0, org c 1, org c 2, org c 3, org c 4, org c 5, far c]
    (by revert c; decide +kernel) (by revert c; decide +kernel)]
  rfl

theorem blk_disjoint {b : ℕ} : ∀ s ∈ (Finset.univ : Finset (Dev nD)), ∀ s' ∈ (Finset.univ : Finset (Dev nD)), s ≠ s' →
    Disjoint (blk s : Finset (Shape.Idx ⟨2, ![4096, b]⟩)) (blk s') :=
  fun s _ s' _ h => rows_disjoint (by have := Fin.val_ne_of_ne h; omega)
theorem blk_cover {b : ℕ} [DecidableEq (Shape.Idx ⟨2, ![4096, b]⟩)] :
    (Finset.univ.biUnion fun s : Dev nD => (blk s : Finset (Shape.Idx ⟨2, ![4096, b]⟩))) = Finset.univ := by
  ext i
  simp only [Finset.mem_biUnion, Finset.mem_univ, true_and, iff_true]
  refine ⟨blkOf (i 0), mem_rows.mpr ?_⟩
  show 512 * ((i 0 : Fin 4096).val / 512) ≤ (i 0 : Fin 4096).val ∧ (i 0 : Fin 4096).val < 512 * ((i 0 : Fin 4096).val / 512) + 512
  omega
theorem row_disjoint {b : ℕ} : ∀ s ∈ (Finset.univ : Finset (Dev nD)), ∀ s' ∈ (Finset.univ : Finset (Dev nD)), s ≠ s' →
    Disjoint (rows s.val 1 : Finset (Shape.Idx ⟨2, ![8, b]⟩)) (rows s'.val 1) :=
  fun s _ s' _ h => rows_disjoint (by have := Fin.val_ne_of_ne h; omega)
theorem row_cover {b : ℕ} [DecidableEq (Shape.Idx ⟨2, ![8, b]⟩)] :
    (Finset.univ.biUnion fun s : Dev nD => (rows s.val 1 : Finset (Shape.Idx ⟨2, ![8, b]⟩))) = Finset.univ := by
  ext i
  simp only [Finset.mem_biUnion, Finset.mem_univ, true_and, iff_true]
  refine ⟨(i 0 : Fin 8), mem_rows.mpr ?_⟩
  show (i 0 : Fin 8).val ≤ (i 0 : Fin 8).val ∧ (i 0 : Fin 8).val < (i 0 : Fin 8).val + 1
  omega

theorem gP_blocks (c : Dev nD) (q : PosShare TreeShare) (f : S4096x4096.Idx → Elt F .bf16) :
    gP c Finset.univ q f = bigSep Finset.univ fun s : Dev nD => gP c (blk s) q f := by
  have h : (((c : Thread nD τ).loc cc0_scratch0 ↦[_]{q} f) : sProp 𝕄) = _ := pointsTo_biUnion Finset.univ
    (fun s : Dev nD => (blk s : Finset S4096x4096.Idx)) blk_disjoint
  rw [blk_cover] at h
  exact h
theorem oP_blocks (c : Dev nD) (f : S4096x256.Idx → Elt F .f32) :
    oP c Finset.univ f = bigSep Finset.univ fun s : Dev nD => oP c (blk s) f := by
  have h : (((c : Thread nD τ).loc cc0_stg2_0 ↦[_]{fullShare} f) : sProp 𝕄) = _ := pointsTo_biUnion Finset.univ
    (fun s : Dev nD => (blk s : Finset S4096x256.Idx)) blk_disjoint
  rw [blk_cover] at h
  exact h
theorem tP_rows (c : Dev nD) (f : S8x128.Idx → Elt F .f32) :
    tP c Finset.univ f = bigSep Finset.univ fun s : Dev nD => tP c (rows s.val 1) f := by
  have h : (((c : Thread nD τ).loc cc0_scratch3 ↦[_]{fullShare} f) : sProp 𝕄) = _ := pointsTo_biUnion Finset.univ
    (fun s : Dev nD => (rows s.val 1 : Finset S8x128.Idx)) row_disjoint
  rw [row_cover] at h
  exact h

/-! ## At the start -/

theorem inR_far (c : Dev nD) (f : S4096x4096.Idx → Elt F .bf16) :
    gP c (blk (far c)) fullShare f ⊢ iprop(gP c (inR c 6) fullShare f ∗ gP c (inR c 7) fullShare f) := by
  unfold gP
  rw [show (blk (far c) : Finset S4096x4096.Idx) = inR c 6 ∪ inR c 7 from rows_add (512 * (far c).val) 256 256]
  exact (pointsTo_union (rows_disjoint (Or.inl (Nat.le_refl _)))).1

/-- The places in the gathered array, by the neighbour whose copy lands there. -/
theorem by_sender (c : Dev nD) (Φ : Fin 8 → sProp 𝕄) : (bigSep Finset.univ Φ : sProp 𝕄)
    = bigSep Finset.univ fun d : Fin 3 => bigSep (Finset.univ.filter fun e : Fin 8 => sdir c e = d) Φ := by
  rw [← bigSep_biUnion_eq (Finset.univ : Finset (Fin 3)) (fun d => Finset.univ.filter fun e : Fin 8 => sdir c e = d) Φ
    fun d _ d' _ h => Finset.disjoint_left.mpr fun e he he' =>
      h ((Finset.mem_filter.mp he).2.symm.trans (Finset.mem_filter.mp he').2)]
  congr 1
  ext e; simp

/-- Three separate pieces, one by one. -/
theorem big3 (Φ : Fin 3 → sProp 𝕄) : (bigSep Finset.univ Φ : sProp 𝕄) = iprop(Φ 0 ∗ Φ 1 ∗ Φ 2) := by
  rw [bigSep_univ_eq_bigSepL [0, 1, 2] (by decide) (by decide)]
  rfl

/-- The gathered array: the device's own block stays, the rest goes to the neighbours. -/
theorem deal_g (c : Dev nD) : iprop(∃ f, gP (F := F) c Finset.univ fullShare f)
    ⊢ iprop((∃ f, gP (F := F) c (blk c) fullShare f) ∗ give (F := F) c 0 ∗ give (F := F) c 1 ∗ give (F := F) c 2) := by
  have h : iprop(give (F := F) c 0 ∗ give (F := F) c 1 ∗ give (F := F) c 2)
      = bigSep Finset.univ fun e : Fin 8 => iprop(∃ f, gP (F := F) c (inR c e) fullShare f) := by
    rw [by_sender c, big3]; rfl
  rw [h, big8]
  iintro ⟨%f, H⟩
  ihave H := (Entails.of_eq ((gP_blocks c fullShare f).trans (all8 c _))) $$ H
  icases H with ⟨Hc, H0, H1, H2, H3, H4, H5, Hf⟩
  ihave Hf := (inR_far c f) $$ Hf
  icases Hf with ⟨H6, H7⟩
  isplitl [Hc]; · iexists f; iexact Hc
  isplitl [H0]; · iexists f; rw [inR_whole c 0 (by decide)]; iexact H0
  isplitl [H1]; · iexists f; rw [inR_whole c 1 (by decide)]; iexact H1
  isplitl [H2]; · iexists f; rw [inR_whole c 2 (by decide)]; iexact H2
  isplitl [H3]; · iexists f; rw [inR_whole c 3 (by decide)]; iexact H3
  isplitl [H4]; · iexists f; rw [inR_whole c 4 (by decide)]; iexact H4
  isplitl [H5]; · iexists f; rw [inR_whole c 5 (by decide)]; iexact H5
  isplitl [H6]; · iexists f; iexact H6
  iexists f; iexact H7

theorem right_of (c j : Dev nD) (f : S8x128.Idx → Elt F .f32) : tP c (rows j.val 1) f ⊢ right (F := F) c j := by
  unfold right; iintro H; iexists f; iexact H
theorem o0_of (c s : Dev nD) (f : S4096x256.Idx → Elt F .f32) : oP c (blk s) f ⊢ o0 (F := F) c s := by
  unfold o0; iintro H; iexists f; iexact H

/-- The table: the device's own row stays, the rights to the others go with the first three copies. -/
theorem deal_t (c : Dev nD) : iprop(∃ f, tP (F := F) c Finset.univ f)
    ⊢ iprop((∃ f, tP (F := F) c (rows c.val 1) f) ∗ rights (F := F) c (R 0 c) ∗ rights (F := F) c (R 1 c) ∗ rights (F := F) c (R 2 c)) := by
  have h : iprop(rights (F := F) c (R 0 c) ∗ rights (F := F) c (R 1 c) ∗ rights (F := F) c (R 2 c))
      = bigSep (Finset.univ.erase c) fun j : Dev nD => right (F := F) c j := by
    rw [(R_start c).1, bigSep_union (R_start c).2.1, bigSep_union (R_start c).2.2]; rfl
  rw [h]
  have e : ∀ f : S8x128.Idx → Elt F .f32, (bigSep (Finset.univ.erase c) fun s : Dev nD => tP c (rows s.val 1) f)
      ⊢ bigSep (Finset.univ.erase c) fun j : Dev nD => right (F := F) c j := fun f =>
    bigSep_mono fun j _ => right_of c j f
  iintro ⟨%f, H⟩
  ihave H := (Entails.of_eq ((tP_rows c f).trans (bigSep_univ_at _ c))) $$ H
  icases H with ⟨Hc, H⟩
  isplitl [Hc]; · iexists f; iexact Hc
  iapply (e f); iexact H

/-- The result: eight blocks still to be written. -/
theorem deal_o (c : Dev nD) : iprop(∃ f, oP (F := F) c Finset.univ f)
    ⊢ iprop(o0 (F := F) c c ∗ o0 (F := F) c (org c 0) ∗ o0 (F := F) c (org c 1) ∗ o0 (F := F) c (org c 2) ∗ o0 (F := F) c (org c 3)
        ∗ o0 (F := F) c (org c 4) ∗ o0 (F := F) c (org c 5) ∗ o0 (F := F) c (far c)) := by
  have e : ∀ f : S4096x256.Idx → Elt F .f32, oP c Finset.univ f ⊢ bigSep Finset.univ fun s : Dev nD => o0 (F := F) c s := fun f => by
    rw [oP_blocks]
    exact bigSep_mono fun j _ => o0_of c j f
  rw [← all8 c fun s => o0 (F := F) c s]
  iintro ⟨%f, H⟩
  iapply (e f); iexact H

/-! ## Blocks that arrive -/

theorem rights_union (p c : Dev nD) {S T U : Finset (Dev nD)} (h : S = insert c (T ∪ U)) (hc : c ∉ T ∪ U) (hd : Disjoint T U) :
    rights (F := F) p S ⊢ iprop(right (F := F) p c ∗ rights (F := F) p T ∗ rights (F := F) p U) := by
  unfold rights
  rw [h, bigSep_insert hc, bigSep_union hd]; exact .rfl

/-- A block that arrives whole, in the shares it is sent on in and one to multiply with. -/
theorem share3 (c : Dev nD) (S : Finset S4096x4096.Idx) :
    gP c S fullShare (XG m)
      ⊢ iprop(gP c S fullShare.left (XG m) ∗ gP c S fullShare.right.left (XG m) ∗ gP c S fullShare.right.right (XG m)) :=
  (share2 m c S fullShare).trans (sep_mono_right (share2 m c S fullShare.right))
theorem unshare3 (c : Dev nD) (S : Finset S4096x4096.Idx) :
    iprop(gP c S fullShare.left (XG m) ∗ gP c S fullShare.right.left (XG m) ∗ gP c S fullShare.right.right (XG m))
      ⊢ gP c S fullShare (XG m) :=
  BI.Entails.trans (sep_mono_right (unshare2 m c S fullShare.right)) (unshare2 m c S fullShare)

/-- What copy 5 takes along of a block. -/
def five (c : Dev nD) : sProp 𝕄 := iprop(gP c (outR c 5) (shareE 5) (XG m) ∗ rights (F := F) (sorg c 5) (R 5 (sorg c 5)))

theorem outR_five (c : Dev nD) (s : Dev nD) (h : sorg c 5 = s) : outR c 5 = blk s := by rw [outR_whole c 5 (by decide), h]

/-- Block `org c 0` is sent on as copy 3, and on an even place as copy 5. -/
theorem fwd_zero (c : Dev nD) :
    got m c 0 ⊢ iprop((right (F := F) (org c 0) c ∗ zeroK c (rcvK c 0))
      ∗ (gP c (outR c 3) (shareE 3) (XG m) ∗ rights (F := F) (sorg c 3) (R 3 (sorg c 3)))
      ∗ gP c (blk (org c 0)) fullShare.right.right (XG m)
      ∗ (if even c = true then five m c else gP c (blk (org c 0)) fullShare.right.left (XG m))) := by
  unfold got
  rw [inR_whole c 0 (by decide), outR_whole c 3 (by decide)]
  iintro ⟨Hg, Hr, Hz⟩
  ihave Hr := (rights_union (F := F) (org c 0) c (R_zero c).1 (R_zero c).2.1 (R_zero c).2.2) $$ Hr
  icases Hr with ⟨Hr, H3, H5⟩
  ihave Hg := (share3 m c (blk (org c 0))) $$ Hg
  icases Hg with ⟨Hl, Hm, Hg⟩
  isplitl [Hr Hz]; · isplitl [Hr] <;> iassumption
  isplitl [Hl H3]
  · isplitl [Hl]; · iexact Hl
    iexact H3
  isplitl [Hg]; · iexact Hg
  by_cases h : even c = true
  · have hs : sorg c 5 = org c 0 := if_pos h
    rw [if_pos h, if_pos h]
    unfold five
    rw [outR_five c _ hs, hs]
    isplitl [Hm]; · iexact Hm
    iexact H5
  · rw [if_neg h, if_neg h]
    iexact Hm

/-- Block `org c 1` is sent on as copy 4, and on an odd place as copy 5. -/
theorem fwd_one (c : Dev nD) :
    got m c 1 ⊢ iprop((right (F := F) (org c 1) c ∗ zeroK c (rcvK c 1))
      ∗ (gP c (outR c 4) (shareE 4) (XG m) ∗ rights (F := F) (sorg c 4) (R 4 (sorg c 4)))
      ∗ gP c (blk (org c 1)) fullShare.right.right (XG m)
      ∗ (if even c = true then gP c (blk (org c 1)) fullShare.right.left (XG m) else five m c)) := by
  unfold got
  rw [inR_whole c 1 (by decide), outR_whole c 4 (by decide)]
  iintro ⟨Hg, Hr, Hz⟩
  ihave Hr := (rights_union (F := F) (org c 1) c (R_one c).1 (R_one c).2.1 (R_one c).2.2) $$ Hr
  icases Hr with ⟨Hr, H3, H5⟩
  ihave Hg := (share3 m c (blk (org c 1))) $$ Hg
  icases Hg with ⟨Hl, Hm, Hg⟩
  isplitl [Hr Hz]; · isplitl [Hr] <;> iassumption
  isplitl [Hl H3]
  · isplitl [Hl]; · iexact Hl
    iexact H3
  isplitl [Hg]; · iexact Hg
  by_cases h : even c = true
  · rw [if_pos h, if_pos h]
    iexact Hm
  · have hs : sorg c 5 = org c 1 := if_neg h
    rw [if_neg h, if_neg h]
    unfold five
    rw [outR_five c _ hs, hs]
    isplitl [Hm]; · iexact Hm
    iexact H5

/-- Block `org c 2` stays. -/
theorem keep_two (c : Dev nD) :
    got m c 2 ⊢ iprop((right (F := F) (org c 2) c ∗ zeroK c (rcvK c 2)) ∗ gP c (blk (org c 2)) fullShare (XG m)) := by
  unfold got
  rw [inR_whole c 2 (by decide)]
  iintro ⟨Hg, Hr, Hz⟩
  ihave Hr := (rights_one (F := F) (org c 2) c (R_last c).1) $$ Hr
  isplitl [Hr Hz]; · isplitl [Hr] <;> iassumption
  iexact Hg

/-! ## At the end -/

/-- What is left of the two neighbours' blocks on the ring, once copy 5 has left. -/
def spare (c : Dev nD) : sProp 𝕄 :=
  if even c = true then gP c (blk (org c 1)) fullShare.right.left (XG m) else gP c (blk (org c 0)) fullShare.right.left (XG m)

theorem join_five (c : Dev nD) : iprop(gP c (outR c 5) (shareE 5) (XG m) ∗ spare m c)
    ⊢ iprop(gP c (blk (org c 0)) fullShare.right.left (XG m) ∗ gP c (blk (org c 1)) fullShare.right.left (XG m)) := by
  unfold spare
  by_cases h : even c = true
  · rw [if_pos h, outR_five c (org c 0) (if_pos h)]; exact .rfl
  · rw [if_neg h, outR_five c (org c 1) (if_neg h)]; exact sep_symm

/-- The gathered array is whole again. -/
theorem join_g (c : Dev nD) :
    iprop((gP c (outR c 0) (shareE 0) (XG m) ∗ gP c (outR c 1) (shareE 1) (XG m) ∗ gP c (outR c 2) (shareE 2) (XG m)
          ∗ gP c (blk c) fullShare.right.right (XG m))
        ∗ (gP c (outR c 3) (shareE 3) (XG m) ∗ gP c (blk (org c 0)) fullShare.right.right (XG m))
        ∗ (gP c (outR c 4) (shareE 4) (XG m) ∗ gP c (blk (org c 1)) fullShare.right.right (XG m))
        ∗ (gP c (outR c 5) (shareE 5) (XG m) ∗ spare m c)
        ∗ (gP c (outR c 6) (shareE 6) (XG m) ∗ gP c (rowsL (org c 3)) fullShare.left (XG m) ∗ gP c (blk (org c 3)) fullShare.right (XG m))
        ∗ (gP c (outR c 7) (shareE 7) (XG m) ∗ gP c (rowsU (org c 4)) fullShare.left (XG m) ∗ gP c (blk (org c 4)) fullShare.right (XG m))
        ∗ gP c (blk (org c 2)) fullShare (XG m) ∗ gP c (blk (org c 5)) fullShare (XG m) ∗ gP c (blk (far c)) fullShare (XG m))
      ⊢ gP c Finset.univ fullShare (XG m) := by
  rw [gP_blocks, all8 c, outR_whole c 0 (by decide), outR_whole c 1 (by decide), outR_whole c 2 (by decide),
    outR_whole c 3 (by decide), outR_whole c 4 (by decide), outR_six, outR_seven]
  iintro ⟨⟨H0, H1, H2, Hc⟩, ⟨H3, Ha⟩, ⟨H4, Hb⟩, H5, ⟨H6, Hl6, Hr6⟩, ⟨H7, Hu7, Hr7⟩, Hk2, Hk5, Hkf⟩
  ihave H5 := (join_five m c) $$ H5
  icases H5 with ⟨Hma, Hmb⟩
  isplitl [H0 H1 H2 Hc]
  · iapply (unshare3 m c (blk c))
    isplitl [H0 H1]
    · iapply (unshare2 m c (blk c) fullShare.left)
      isplitl [H0]; · iexact H0
      iexact H1
    isplitl [H2]; · iexact H2
    iexact Hc
  isplitl [H3 Hma Ha]
  · iapply (unshare3 m c (blk (org c 0)))
    isplitl [H3]; · iexact H3
    isplitl [Hma] <;> iassumption
  isplitl [H4 Hmb Hb]
  · iapply (unshare3 m c (blk (org c 1)))
    isplitl [H4]; · iexact H4
    isplitl [Hmb] <;> iassumption
  isplitl [Hk2]; · iexact Hk2
  isplitl [H6 Hl6 Hr6]
  · iapply (unshare2 m c (blk (org c 3)) fullShare)
    isplitl [H6 Hl6]
    · iapply (unhalves m c (org c 3) fullShare.left)
      isplitl [H6]; · iexact H6
      iexact Hl6
    iexact Hr6
  isplitl [H7 Hu7 Hr7]
  · iapply (unshare2 m c (blk (org c 4)) fullShare)
    isplitl [H7 Hu7]
    · iapply (unhalves m c (org c 4) fullShare.left)
      isplitl [Hu7]; · iexact Hu7
      iexact H7
    iexact Hr7
  isplitl [Hk5] <;> iassumption

/-- The result is whole: the eight products. -/
theorem join_o (c : Dev nD) :
    iprop(o1 m c c ∗ o1 m c (org c 0) ∗ o1 m c (org c 1) ∗ o1 m c (org c 2) ∗ o1 m c (org c 3) ∗ o1 m c (org c 4) ∗ o1 m c (org c 5)
        ∗ o1 m c (far c)) ⊢ oP c Finset.univ (Y m c) := by
  rw [oP_blocks, all8 c]; exact .rfl

/-! ## The exchange of maxima -/

theorem ax0_self (c : Dev nD) : ax0 (F := F) c c = iprop(emp) := if_pos rfl

/-- Everything to send the maximum to every other device. -/
theorem ax0_intro (c : Dev nD) :
    iprop((bigSep (others c) fun p => tok c (.inr (.inr p))) ∗ (bigSep (others c) fun p => ownTok c (axsK p))
        ∗ (bigSep (others c) fun p => pos c (axsK p)) ∗ (bigSep (others c) fun p => right (F := F) p c))
      ⊢ bigSep Finset.univ fun p : Fin 8 => ax0 (F := F) c p := by
  rw [bigSep_univ_at (fun p : Fin 8 => ax0 (F := F) c p) c, ax0_self, ← bigSep_sep', ← bigSep_sep', ← bigSep_sep']
  have h : (bigSep (others c) fun p => iprop(tok c (.inr (.inr p)) ∗ ownTok c (axsK p) ∗ pos c (axsK p) ∗ right (F := F) p c))
      ⊢ bigSep (Finset.univ.erase c) fun p : Fin 8 => ax0 (F := F) c p :=
    bigSep_mono fun p hp => by rw [show ax0 (F := F) c p = _ from if_neg (Finset.ne_of_mem_erase hp)]; exact BI.Entails.refl _
  iintro H
  isplitr; · iempintro
  iapply h; iexact H

/-- Everything to receive the maxima: the device's own is in its table already. -/
theorem ar0_intro (c : Dev nD) :
    iprop(tP c (rows c.val 1) (MX m) ∗ (bigSep (others c) fun p => credK c (axrK p) NA) ∗ (bigSep (others c) fun p => pos c (axrK p)))
      ⊢ bigSep Finset.univ fun p : Fin 8 => ar0 m c p := by
  have h : (bigSep (others c) fun p => iprop(credK c (axrK p) NA ∗ pos c (axrK p)))
      ⊢ bigSep (Finset.univ.erase c) fun p : Fin 8 => ar0 m c p :=
    bigSep_mono fun p hp => by rw [show ar0 m c p = _ from if_neg (Finset.ne_of_mem_erase hp)]; exact BI.Entails.refl _
  rw [bigSep_univ_at (fun p : Fin 8 => ar0 m c p) c, ← bigSep_sep', show ar0 m c c = tP c (rows c.val 1) (MX m) from if_pos rfl]
  exact sep_mono_right h

/-- A claim for every other device. -/
theorem drop_self (c : Dev nD) (Φ : Fin 8 → sProp 𝕄) :
    (bigSep Finset.univ fun p : Fin 8 => if p = c then iprop(emp) else Φ p) ⊢ bigSep (others c) Φ := by
  have h : (bigSep (Finset.univ.erase c) fun p : Fin 8 => if p = c then (iprop(emp) : sProp 𝕄) else Φ p) ⊢ bigSep (others c) Φ :=
    bigSep_mono fun p hp => by rw [if_neg (Finset.ne_of_mem_erase hp)]; exact BI.Entails.refl _
  rw [bigSep_univ_at _ c]
  iintro ⟨-, H⟩
  iapply h; iexact H

/-- The table is full. -/
theorem ar1_elim (c : Dev nD) : (bigSep Finset.univ fun p : Fin 8 => ar1 m c p)
    ⊢ iprop(tP c Finset.univ (MX m) ∗ bigSep (others c) fun p => zeroK (F := F) c (axrK p)) := by
  unfold ar1
  rw [bigSep_sep', tP_rows]
  exact sep_mono_right (drop_self c fun p => zeroK c (axrK p))

/-- The maximum is whole again. -/
theorem ax2_elim (c : Dev nD) : (bigSep Finset.univ fun p : Fin 8 => ax2 m c p)
    ⊢ iprop(aP c fullShare (AX m c) ∗ bigSep (others c) fun p => zeroK (F := F) c (axsK p)) := by
  unfold ax2
  rw [bigSep_sep', aP_leaves]
  exact sep_mono_right (drop_self c fun p => zeroK c (axsK p))

end Cert.GatherQuant
-- ==== Proof.Maxima.lean ====
/- The last pieces of the body: the maximum is sent to every other device, theirs are waited for, and the table of the
   eight maxima and the product are read. -/
module

public import proofs.«01_k».proof.Proof.Exchange

@[expose] public section

noncomputable section

namespace Cert.GatherQuant

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The maximum, sent to every other device; kept in the device's own row of the table. -/
theorem part16 (c : Dev nD) (v2 : BitVec 32) (v414 : S1x128.Idx → Elt F .f32) (Kt : PUnit → sProp 𝕄) :
    iprop(env m ∗ Ow c ∅ ∅ (Finset.univ.erase c) ∗ (∃ f, aP (F := F) c fullShare f) ∗ (∃ f, tP (F := F) c (rows c.val 1) f)
        ∗ (bigSep Finset.univ fun p : Fin 8 => ax0 (F := F) c p)
        ∗ ((Ow c ∅ ∅ ∅ ∗ tP c (rows c.val 1) (MX m) ∗ bigSep Finset.univ fun p : Fin 8 => ax1 m c p) -∗ Kt ⟨⟩))
      ⊢ WP c (atBufs k0_part16 c v2 (k0_pay19 (am7 m c)) v414) Kt := by
  simp only [atBufs, k0_part16_eq_skeleton]; unfold k0_part16_skel
  simp only [Prog.lift, Prog.bind_op, Prog.bind_ret, Prog.pure_eq_ret]
  iintro ⟨#He, HO, ⟨%fa, Ha⟩, ⟨%ft, Ht⟩, Hx, Hk⟩
  iapply (st_a c) $$ Ha
  iintro Ha
  iapply (ld_a c (k0_pay20 (k0_pay19 (am7 m c)))) $$ Ha
  iintro Ha
  iapply (ld_t' c c (k0_off28_eq c)) $$ Ht
  iintro %_ Ht
  iapply (st_t m c (k0_off28_eq c)) $$ Ht
  iintro Ht
  ihave Ha := (Entails.of_eq ((show aP c fullShare (k0_pay20 (k0_pay19 (am7 m c))) = aP c fullShare (AX m c) from rfl).trans
    (aP_leaves c (AX m c)))) $$ Ha
  ihave Ha := (Entails.of_eq (big8 fun p => aP c (shareA p) (AX m c))) $$ Ha
  ihave Hx := (Entails.of_eq (big8 fun p => ax0 (F := F) c p)) $$ Hx
  icases Ha with ⟨Ha0, Ha1, Ha2, Ha3, Ha4, Ha5, Ha6, Ha7⟩
  icases Hx with ⟨Hx0, Hx1, Hx2, Hx3, Hx4, Hx5, Hx6, Hx7⟩
  rw [← lat_zero c]
  iapply (under (φ := (0 : Fin 8) ≠ c) (by revert c; decide +kernel)
    (fun h hp => step_axsend m c _ 0 hp rfl (axs_sem 0 rfl _) (axr_sem c (k0_off29_eq c) _) (lat c 1) ((lat_step c 0).1 hp)
      (k0_off30_eq c)) (axsend_self m c 0)) $$ [HO Hx0 Ha0]
  · isplitr; · iexact He
    isplitl [HO]; · iexact HO
    isplitl [Hx0] <;> iassumption
  iintro ⟨HO, Hx0⟩
  iapply (under (φ := (1 : Fin 8) ≠ c) (by revert c; decide +kernel)
    (fun h hp => step_axsend m c _ 1 hp rfl (axs_sem 1 rfl _) (axr_sem c (k0_off31_eq c) _) (lat c 2) ((lat_step c 1).1 hp)
      (k0_off32_eq c)) (axsend_self m c 1)) $$ [HO Hx1 Ha1]
  · isplitr; · iexact He
    isplitl [HO]; · iexact HO
    isplitl [Hx1] <;> iassumption
  iintro ⟨HO, Hx1⟩
  iapply (under (φ := (2 : Fin 8) ≠ c) (by revert c; decide +kernel)
    (fun h hp => step_axsend m c _ 2 hp rfl (axs_sem 2 rfl _) (axr_sem c (k0_off33_eq c) _) (lat c 3) ((lat_step c 2).1 hp)
      (k0_off34_eq c)) (axsend_self m c 2)) $$ [HO Hx2 Ha2]
  · isplitr; · iexact He
    isplitl [HO]; · iexact HO
    isplitl [Hx2] <;> iassumption
  iintro ⟨HO, Hx2⟩
  iapply (under (φ := (3 : Fin 8) ≠ c) (by revert c; decide +kernel)
    (fun h hp => step_axsend m c _ 3 hp rfl (axs_sem 3 rfl _) (axr_sem c (k0_off35_eq c) _) (lat c 4) ((lat_step c 3).1 hp)
      (k0_off36_eq c)) (axsend_self m c 3)) $$ [HO Hx3 Ha3]
  · isplitr; · iexact He
    isplitl [HO]; · iexact HO
    isplitl [Hx3] <;> iassumption
  iintro ⟨HO, Hx3⟩
  iapply (under (φ := (4 : Fin 8) ≠ c) (by revert c; decide +kernel)
    (fun h hp => step_axsend m c _ 4 hp rfl (axs_sem 4 rfl _) (axr_sem c (k0_off37_eq c) _) (lat c 5) ((lat_step c 4).1 hp)
      (k0_off38_eq c)) (axsend_self m c 4)) $$ [HO Hx4 Ha4]
  · isplitr; · iexact He
    isplitl [HO]; · iexact HO
    isplitl [Hx4] <;> iassumption
  iintro ⟨HO, Hx4⟩
  iapply (under (φ := (5 : Fin 8) ≠ c) (by revert c; decide +kernel)
    (fun h hp => step_axsend m c _ 5 hp rfl (axs_sem 5 rfl _) (axr_sem c (k0_off39_eq c) _) (lat c 6) ((lat_step c 5).1 hp)
      (k0_off40_eq c)) (axsend_self m c 5)) $$ [HO Hx5 Ha5]
  · isplitr; · iexact He
    isplitl [HO]; · iexact HO
    isplitl [Hx5] <;> iassumption
  iintro ⟨HO, Hx5⟩
  iapply (under (φ := (6 : Fin 8) ≠ c) (by revert c; decide +kernel)
    (fun h hp => step_axsend m c _ 6 hp rfl (axs_sem 6 rfl _) (axr_sem c (k0_off41_eq c) _) (lat c 7) ((lat_step c 6).1 hp)
      (k0_off42_eq c)) (axsend_self m c 6)) $$ [HO Hx6 Ha6]
  · isplitr; · iexact He
    isplitl [HO]; · iexact HO
    isplitl [Hx6] <;> iassumption
  iintro ⟨HO, Hx6⟩
  iapply (under (φ := (7 : Fin 8) ≠ c) (by revert c; decide +kernel)
    (fun h hp => step_axsend m c _ 7 hp rfl (axs_sem 7 rfl _) (axr_sem c (k0_off43_eq c) _) (lat c 8) ((lat_step c 7).1 hp)
      (k0_off44_eq c)) (axsend_self m c 7)) $$ [HO Hx7 Ha7]
  · isplitr; · iexact He
    isplitl [HO]; · iexact HO
    isplitl [Hx7] <;> iassumption
  iintro ⟨HO, Hx7⟩
  rw [lat_last c]
  iapply ret
  iapply Hk
  isplitl [HO]; · iexact HO
  isplitl [Ht]; · iexact Ht
  iapply (Entails.of_eq (big8 fun p => ax1 m c p).symm)
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  iexact Hx7

/-- The maxima of the others arrive; the first two of the device's own have left. -/
theorem part17 (c : Dev nD) (Kt : PUnit → sProp 𝕄) :
    iprop(env m ∗ Ow c ∅ ∅ ∅ ∗ (bigSep Finset.univ fun p : Fin 8 => ar0 m c p) ∗ ax1 m c 0 ∗ ax1 m c 1
        ∗ ((Ow c ∅ ∅ ∅ ∗ (bigSep Finset.univ fun p : Fin 8 => ar1 m c p) ∗ ax2 m c 0 ∗ ax2 m c 1) -∗ Kt ⟨⟩))
      ⊢ WP c (atBufs k0_part17 c (devW c)) Kt := by
  simp only [atBufs, k0_part17_eq_skeleton]; unfold k0_part17_skel
  simp only [Prog.lift, Prog.bind_op, Prog.bind_ret, Prog.pure_eq_ret]
  iintro ⟨#He, HO, Hr, Hx0, Hx1, Hk⟩
  ihave Hr := (Entails.of_eq (big8 fun p => ar0 m c p)) $$ Hr
  icases Hr with ⟨Hr0, Hr1, Hr2, Hr3, Hr4, Hr5, Hr6, Hr7⟩
  iapply (under (φ := (0 : Fin 8) ≠ c) (by revert c; decide +kernel)
    (fun h hp => step_axrecv m c 0 hp (axr_sem 0 rfl _)) (axrecv_self m c 0)) $$ [HO Hr0]
  · isplitr; · iexact He
    isplitl [HO] <;> iassumption
  iintro ⟨HO, Hr0⟩
  iapply (under (φ := (1 : Fin 8) ≠ c) (by revert c; decide +kernel)
    (fun h hp => step_axrecv m c 1 hp (axr_sem 1 rfl _)) (axrecv_self m c 1)) $$ [HO Hr1]
  · isplitr; · iexact He
    isplitl [HO] <;> iassumption
  iintro ⟨HO, Hr1⟩
  iapply (under (φ := (2 : Fin 8) ≠ c) (by revert c; decide +kernel)
    (fun h hp => step_axrecv m c 2 hp (axr_sem 2 rfl _)) (axrecv_self m c 2)) $$ [HO Hr2]
  · isplitr; · iexact He
    isplitl [HO] <;> iassumption
  iintro ⟨HO, Hr2⟩
  iapply (under (φ := (3 : Fin 8) ≠ c) (by revert c; decide +kernel)
    (fun h hp => step_axrecv m c 3 hp (axr_sem 3 rfl _)) (axrecv_self m c 3)) $$ [HO Hr3]
  · isplitr; · iexact He
    isplitl [HO] <;> iassumption
  iintro ⟨HO, Hr3⟩
  iapply (under (φ := (4 : Fin 8) ≠ c) (by revert c; decide +kernel)
    (fun h hp => step_axrecv m c 4 hp (axr_sem 4 rfl _)) (axrecv_self m c 4)) $$ [HO Hr4]
  · isplitr; · iexact He
    isplitl [HO] <;> iassumption
  iintro ⟨HO, Hr4⟩
  iapply (under (φ := (5 : Fin 8) ≠ c) (by revert c; decide +kernel)
    (fun h hp => step_axrecv m c 5 hp (axr_sem 5 rfl _)) (axrecv_self m c 5)) $$ [HO Hr5]
  · isplitr; · iexact He
    isplitl [HO] <;> iassumption
  iintro ⟨HO, Hr5⟩
  iapply (under (φ := (6 : Fin 8) ≠ c) (by revert c; decide +kernel)
    (fun h hp => step_axrecv m c 6 hp (axr_sem 6 rfl _)) (axrecv_self m c 6)) $$ [HO Hr6]
  · isplitr; · iexact He
    isplitl [HO] <;> iassumption
  iintro ⟨HO, Hr6⟩
  iapply (under (φ := (7 : Fin 8) ≠ c) (by revert c; decide +kernel)
    (fun h hp => step_axrecv m c 7 hp (axr_sem 7 rfl _)) (axrecv_self m c 7)) $$ [HO Hr7]
  · isplitr; · iexact He
    isplitl [HO] <;> iassumption
  iintro ⟨HO, Hr7⟩
  iapply (under (φ := (0 : Fin 8) ≠ c) (by revert c; decide +kernel)
    (fun h hp => step_axsent m c 0 hp (axs_sem 0 rfl _)) (axsent_self m c 0)) $$ [HO Hx0]
  · isplitr; · iexact He
    isplitl [HO] <;> iassumption
  iintro ⟨HO, Hx0⟩
  iapply (under (φ := (1 : Fin 8) ≠ c) (by revert c; decide +kernel)
    (fun h hp => step_axsent m c 1 hp (axs_sem 1 rfl _)) (axsent_self m c 1)) $$ [HO Hx1]
  · isplitr; · iexact He
    isplitl [HO] <;> iassumption
  iintro ⟨HO, Hx1⟩
  iapply ret
  iapply Hk
  isplitl [HO]; · iexact HO
  isplitr [Hx0 Hx1]
  · iapply (Entails.of_eq (big8 fun p => ar1 m c p).symm)
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  isplitl [Hx0] <;> iassumption

/-- The others have left; the table of maxima and the product are read. -/
theorem part18 (c : Dev nD) (v2 : BitVec 32) (Kt : (Σ' (v499 : F .f32), FVec F S4096x256 .f32) → sProp 𝕄) :
    iprop(env m ∗ Ow c ∅ ∅ ∅ ∗ ax1 m c 2 ∗ ax1 m c 3 ∗ ax1 m c 4 ∗ ax1 m c 5 ∗ ax1 m c 6 ∗ ax1 m c 7
        ∗ tP c Finset.univ (MX m) ∗ oP c Finset.univ (Y m c)
        ∗ ((Ow c ∅ ∅ ∅ ∗ (ax2 m c 2 ∗ ax2 m c 3 ∗ ax2 m c 4 ∗ ax2 m c 5 ∗ ax2 m c 6 ∗ ax2 m c 7)
            ∗ tP c Finset.univ (MX m) ∗ oP c Finset.univ (Y m c)) -∗ Kt ⟨k0_pay23 (MX m), k0_pay24 (MX m) (Y m c)⟩))
      ⊢ WP c (atBufs k0_part18 c v2) Kt := by
  simp only [atBufs, k0_part18_eq_skeleton]; unfold k0_part18_skel
  simp only [Prog.lift, Prog.bind_op, Prog.bind_ret, Prog.pure_eq_ret]
  iintro ⟨#He, HO, Hx2, Hx3, Hx4, Hx5, Hx6, Hx7, Ht, Ho, Hk⟩
  iapply (under (φ := (2 : Fin 8) ≠ c) (by revert c; decide +kernel)
    (fun h hp => step_axsent m c 2 hp (axs_sem 2 rfl _)) (axsent_self m c 2)) $$ [HO Hx2]
  · isplitr; · iexact He
    isplitl [HO] <;> iassumption
  iintro ⟨HO, Hx2⟩
  iapply (under (φ := (3 : Fin 8) ≠ c) (by revert c; decide +kernel)
    (fun h hp => step_axsent m c 3 hp (axs_sem 3 rfl _)) (axsent_self m c 3)) $$ [HO Hx3]
  · isplitr; · iexact He
    isplitl [HO] <;> iassumption
  iintro ⟨HO, Hx3⟩
  iapply (under (φ := (4 : Fin 8) ≠ c) (by revert c; decide +kernel)
    (fun h hp => step_axsent m c 4 hp (axs_sem 4 rfl _)) (axsent_self m c 4)) $$ [HO Hx4]
  · isplitr; · iexact He
    isplitl [HO] <;> iassumption
  iintro ⟨HO, Hx4⟩
  iapply (under (φ := (5 : Fin 8) ≠ c) (by revert c; decide +kernel)
    (fun h hp => step_axsent m c 5 hp (axs_sem 5 rfl _)) (axsent_self m c 5)) $$ [HO Hx5]
  · isplitr; · iexact He
    isplitl [HO] <;> iassumption
  iintro ⟨HO, Hx5⟩
  iapply (under (φ := (6 : Fin 8) ≠ c) (by revert c; decide +kernel)
    (fun h hp => step_axsent m c 6 hp (axs_sem 6 rfl _)) (axsent_self m c 6)) $$ [HO Hx6]
  · isplitr; · iexact He
    isplitl [HO] <;> iassumption
  iintro ⟨HO, Hx6⟩
  iapply (under (φ := (7 : Fin 8) ≠ c) (by revert c; decide +kernel)
    (fun h hp => step_axsent m c 7 hp (axs_sem 7 rfl _)) (axsent_self m c 7)) $$ [HO Hx7]
  · isplitr; · iexact He
    isplitl [HO] <;> iassumption
  iintro ⟨HO, Hx7⟩
  iapply (ld_t c (MX m)) $$ Ht
  iintro Ht
  iapply (ld_o c (Y m c)) $$ Ho
  iintro Ho
  iapply ret
  iapply Hk
  isplitl [HO]; · iexact HO
  isplitr [Ht Ho]
  · isplitl [Hx2]; · iexact Hx2
    isplitl [Hx3]; · iexact Hx3
    isplitl [Hx4]; · iexact Hx4
    isplitl [Hx5]; · iexact Hx5
    isplitl [Hx6]; · iexact Hx6
    iexact Hx7
  isplitl [Ht] <;> iassumption

end Cert.GatherQuant
-- ==== Proof.Device.lean ====
/- One device's run of the whole body: from its share of the protocol and its buffers to its result. -/
module

public import proofs.«01_k».proof.Proof.Shares
public import proofs.«01_k».proof.Proof.Maxima

@[expose] public section

noncomputable section

namespace Cert.GatherQuant

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A device's transfer semaphores by role -/

/-- The two copy semaphores that stay unused. -/
def idle (c : Dev nD) : Fin 2 → Fin 37 := ![if even c then 5 else 8, if even c then 14 else 11]
theorem idle_role : ∀ (c : Dev nD) (i : Fin 2), roleD c (idle c i) = .idle := by decide +kernel
theorem idle_ge : ∀ (c : Dev nD) (i : Fin 2), 3 ≤ (idle c i).val := by decide +kernel

/-- The semaphores by role. -/
abbrev Slot : Type := (Fin 8 ⊕ Fin 8) ⊕ ((Fin 8 ⊕ Fin 8) ⊕ Fin 2)
def slot (c : Dev nD) : Slot → Fin 37
  | .inl (.inl e) => sndK c e | .inl (.inr e) => rcvK c e
  | .inr (.inl (.inl p)) => axsK p | .inr (.inl (.inr p)) => axrK p | .inr (.inr i) => idle c i
def slotOf (c : Dev nD) (x : Slot) : Fin 34 := Fin.ofNat 34 ((slot c x).val - 3)
theorem slot_bij : ∀ c : Dev nD, Function.Bijective (slotOf c) := by decide +kernel
theorem dk_slot : ∀ (c : Dev nD) (x : Slot), dk (slotOf c x) = slot c x := by decide +kernel

theorem by_role (c : Dev nD) (Φ : Fin 37 → sProp 𝕄) : (bigSep Finset.univ fun k : Fin 34 => Φ (dk k) : sProp 𝕄)
    = iprop(((bigSep Finset.univ fun e : Fin 8 => Φ (sndK c e)) ∗ (bigSep Finset.univ fun e : Fin 8 => Φ (rcvK c e)))
        ∗ ((bigSep Finset.univ fun p : Fin 8 => Φ (axsK p)) ∗ (bigSep Finset.univ fun p : Fin 8 => Φ (axrK p)))
        ∗ (Φ (idle c 0) ∗ Φ (idle c 1))) := by
  rw [bigSep_univ_equiv (Equiv.ofBijective _ (slot_bij c))]
  simp only [Equiv.ofBijective_apply, dk_slot]
  rw [bigSep_univ_sum, bigSep_univ_sum, bigSep_univ_sum, bigSep_univ_sum,
    bigSep_univ_eq_bigSepL [(0 : Fin 2), 1] (by decide) (by decide)]
  rfl

/-- A semaphore that stays unused is done with. -/
theorem close_idle (c : Dev nD) (k : Fin 37) (hk : 3 ≤ k.val) (hr : roleD c k = .idle) :
    iprop(env m ∗ pos (F := F) c k) ⊢ iprop(|={Set.univ}=> zeroK c k) := by
  unfold pos zeroK
  iintro ⟨#He, Hat⟩
  ihave #Hc := (env_dma m c k hk) $$ He
  unfold cellOK
  icases Hc with ⟨⟨%κ, #Hi⟩, #Hr⟩
  imod (Rounds.cell_close ER (Rd m) (Set.mem_univ κ) (fun h => h) (R := 0) (fun r _ => by
    rcases Nat.eq_zero_or_pos r with h | h
    · subst h; rw [duties_zero, roleG_dma, hr]; rfl
    · exact duties_later m (dCell c k) r h)) $$ [Hat] with Hz
  · isplitr; · iexact Hi
    iexact Hat
  imodintro; iexact Hz

/-! ## Copy 5, sent at one of two moments -/

theorem five_even (c : Dev nD) (X : sProp 𝕄) :
    iprop((cp0 c 5 ∗ land (F := F) c 5) ∗ (if even c = true then five m c else X))
      ⊢ iprop(onEven c (ready m c 5) ∗ (if even c = true then iprop(emp) else iprop((cp0 c 5 ∗ land (F := F) c 5) ∗ X))) := by
  by_cases h : even c = true
  · rw [if_pos h, if_pos h, onEven_pos h]
    unfold ready five
    iintro ⟨⟨H1, H2⟩, ⟨H3, H4⟩⟩
    isplitl
    · isplitl [H1]; · iexact H1
      isplitl [H2]; · iexact H2
      isplitl [H3] <;> iassumption
    iempintro
  · rw [if_neg h, if_neg h, onEven_neg h]
    iintro H
    isplitr; · iempintro
    iexact H

theorem five_odd (c : Dev nD) :
    iprop((onEven c (sent (F := F) c 5)
          ∗ (if even c = true then iprop(emp) else iprop((cp0 c 5 ∗ land (F := F) c 5) ∗ gP c (blk (org c 0)) fullShare.right.left (XG m))))
        ∗ (if even c = true then gP c (blk (org c 1)) fullShare.right.left (XG m) else five m c))
      ⊢ iprop((if even c = true then sent c 5 else ready m c 5) ∗ spare m c) := by
  unfold spare
  by_cases h : even c = true
  · rw [if_pos h, if_pos h, if_pos h, if_pos h, onEven_pos h]
    iintro ⟨⟨H1, -⟩, H2⟩
    isplitl [H1] <;> iassumption
  · rw [if_neg h, if_neg h, if_neg h, if_neg h, onEven_neg h]
    unfold ready five
    iintro ⟨⟨-, ⟨H1, H2⟩, H5⟩, ⟨H3, H4⟩⟩
    isplitr [H5]
    · isplitl [H1]; · iexact H1
      isplitl [H2]; · iexact H2
      isplitl [H3] <;> iassumption
    iexact H5

/-! ## The whole body -/

/-- What a device may wait for. -/
def credits (c : Dev nD) : sProp 𝕄 :=
  iprop(cred (tallyAt (barCell c) () 3) ∗ (bigSep Finset.univ fun e : Fin 8 => credK c (rcvK c e) (NE e))
    ∗ bigSep (others c) fun p => credK c (axrK p) NA)
/-- The tokens a device pays with. -/
def tokens (c : Dev nD) : sProp 𝕄 :=
  iprop((bigSep Finset.univ fun d : Fin 3 => tok c (.inl d)) ∗ (bigSep Finset.univ fun e : Fin 8 => tok c (.inr (.inl e)))
    ∗ (bigSep (others c) fun p => tok c (.inr (.inr p)))
    ∗ (bigSep Finset.univ fun e : Fin 8 => ownTok c (sndK c e)) ∗ (bigSep (others c) fun p => ownTok c (axsK p)))
/-- A device's places at its cells, and all of them done with. -/
def places (c : Dev nD) : sProp 𝕄 :=
  iprop(atPos ER (barCell c) 0 (∅ : Finset (Fin 3)) 0 ∗ bigSep Finset.univ fun k : Fin 34 => pos c (dk k))
def zeros (c : Dev nD) : sProp 𝕄 := iprop(semVal (barCell c) 0 ∗ bigSep Finset.univ fun k : Fin 34 => zeroK c (dk k))
/-- A device's working buffers, whatever they hold. -/
def working (c : Dev nD) : sProp 𝕄 :=
  iprop((∃ f, gP (F := F) c Finset.univ fullShare f) ∗ (∃ f, vP (F := F) c f) ∗ (∃ f, aP (F := F) c fullShare f)
    ∗ ∃ f, tP (F := F) c Finset.univ f)

theorem cps (c : Dev nD) :
    iprop((bigSep Finset.univ fun e : Fin 8 => tok c (.inr (.inl e))) ∗ (bigSep Finset.univ fun e : Fin 8 => ownTok c (sndK c e))
        ∗ (bigSep Finset.univ fun e : Fin 8 => pos c (sndK c e)))
      ⊢ (iprop(cp0 c 0 ∗ cp0 c 1 ∗ cp0 c 2 ∗ cp0 c 3 ∗ cp0 c 4 ∗ cp0 c 5 ∗ cp0 c 6 ∗ cp0 c 7) : sProp 𝕄) := by
  rw [← big8 fun e => cp0 c e, ← bigSep_sep', ← bigSep_sep']; exact .rfl
theorem rcs (c : Dev nD) :
    iprop((bigSep Finset.univ fun e : Fin 8 => credK c (rcvK c e) (NE e)) ∗ (bigSep Finset.univ fun e : Fin 8 => pos c (rcvK c e)))
      ⊢ (iprop(rc0 c 0 ∗ rc0 c 1 ∗ rc0 c 2 ∗ rc0 c 3 ∗ rc0 c 4 ∗ rc0 c 5 ∗ rc0 c 6 ∗ rc0 c 7) : sProp 𝕄) := by
  rw [← big8 fun e => rc0 c e, ← bigSep_sep']; exact .rfl

/-- All of a device's cells are done with. -/
theorem zeros_intro (c : Dev nD) :
    iprop(semVal (barCell c) 0
        ∗ ((zeroK c (sndK c 0) ∗ zeroK c (sndK c 1) ∗ zeroK c (sndK c 2) ∗ zeroK c (sndK c 3) ∗ zeroK c (sndK c 4) ∗ zeroK c (sndK c 5)
            ∗ zeroK c (sndK c 6) ∗ zeroK c (sndK c 7))
          ∗ (zeroK c (rcvK c 0) ∗ zeroK c (rcvK c 1) ∗ zeroK c (rcvK c 2) ∗ zeroK c (rcvK c 3) ∗ zeroK c (rcvK c 4) ∗ zeroK c (rcvK c 5)
            ∗ zeroK c (rcvK c 6) ∗ zeroK c (rcvK c 7)))
        ∗ ((zeroK c (axsK c) ∗ bigSep (others c) fun p => zeroK c (axsK p)) ∗ (zeroK c (axrK c) ∗ bigSep (others c) fun p => zeroK c (axrK p)))
        ∗ (zeroK c (idle c 0) ∗ zeroK c (idle c 1)))
      ⊢ zeros (F := F) c := by
  unfold zeros
  rw [by_role c fun k => zeroK c k, big8 fun e => zeroK c (sndK c e), big8 fun e => zeroK c (rcvK c e),
    bigSep_univ_at (fun p : Fin 8 => zeroK c (axsK p)) c, bigSep_univ_at (fun p : Fin 8 => zeroK c (axrK p)) c]

attribute [local irreducible] k0_part3 k0_part4 k0_part5 k0_part6 k0_part7 k0_part8 k0_part9 k0_part10 k0_part11 k0_part12 k0_part13 k0_part14
  k0_part15 k0_part16 k0_part17 k0_part18

set_option maxHeartbeats 800000 in
/-- The body, piece by piece. -/
theorem body_run (c : Dev nD) (Kt : PUnit → sProp 𝕄) :
    iprop(env m ∗ Ow c Finset.univ Finset.univ (others c) ∗ credits (F := F) c ∗ tokens (F := F) c ∗ places (F := F) c ∗ working (F := F) c
        ∗ xP c (xst m c) ∗ wP c (wst m c) ∗ (∃ f, oP (F := F) c Finset.univ f)
        ∗ ((Ow c ∅ ∅ ∅ ∗ zeros (F := F) c ∗ working (F := F) c ∗ xP c (xst m c) ∗ wP c (wst m c) ∗ oP c Finset.univ (outAt m c)) -∗ Kt ⟨⟩))
      ⊢ WP c (atBufs (cc0_body (F := F))) Kt := by
  simp only [atBufs, cc0_body_eq_skeleton]; unfold cc0_body_skel
  unfold credits tokens places working
  rw [by_role c fun k => pos c k, big3, bigSep_univ_at (fun p : Fin 8 => pos c (axsK p)) c, bigSep_univ_at (fun p : Fin 8 => pos c (axrK p)) c]
  iintro ⟨#He, HO, ⟨Hcb, Hcr, Hcx⟩, ⟨⟨Ht0, Ht1, Ht2⟩, Hte, Htx, Hoe, Hox⟩, ⟨Hpb, ⟨Hps, Hpr⟩, ⟨⟨Hia, Hpa⟩, ⟨Hib, Hpq⟩⟩, Hi0, Hi1⟩,
    ⟨Hg, Hv, Ha, Ht⟩, Hx, Hw, Ho, Hk⟩
  imod (close_idle m c (axsK c) (axsK_ge c) (roleD_self c).1) $$ [Hia] with Hia
  · isplitr; · iexact He
    iexact Hia
  imod (close_idle m c (axrK c) (axrK_ge c) (roleD_self c).2) $$ [Hib] with Hib
  · isplitr; · iexact He
    iexact Hib
  imod (close_idle m c (idle c 0) (idle_ge c 0) (idle_role c 0)) $$ [Hi0] with Hi0
  · isplitr; · iexact He
    iexact Hi0
  imod (close_idle m c (idle c 1) (idle_ge c 1) (idle_role c 1)) $$ [Hi1] with Hi1
  · isplitr; · iexact He
    iexact Hi1
  ihave Hcp := (cps (F := F) c) $$ [Hte Hoe Hps]
  · isplitl [Hte]; · iexact Hte
    isplitl [Hoe] <;> iassumption
  icases Hcp with ⟨Hc0, Hc1, Hc2, Hc3, Hc4, Hc5, Hc6, Hc7⟩
  ihave Hrc := (rcs (F := F) c) $$ [Hcr Hpr]
  · isplitl [Hcr] <;> iassumption
  icases Hrc with ⟨Hr0, Hr1, Hr2, Hr3, Hr4, Hr5, Hr6, Hr7⟩
  ihave Hg := (deal_g (F := F) c) $$ Hg
  icases Hg with ⟨Hg, Hgv0, Hgv1, Hgv2⟩
  ihave Ht := (deal_t (F := F) c) $$ Ht
  icases Ht with ⟨Ht, Hrt0, Hrt1, Hrt2⟩
  ihave Ho := (deal_o (F := F) c) $$ Ho
  icases Ho with ⟨Ho, Ho0, Ho1, Ho2, Ho3, Ho4, Ho5, Hof⟩
  -- the signals, the first two copies
  rw [wp_bind]
  iapply (part3 m c _)
  isplitr; · iexact He
  isplitl [HO]; · iexact HO
  isplitl [Ht0]; · iexact Ht0
  isplitl [Hgv0]; · iexact Hgv0
  isplitl [Ht1]; · iexact Ht1
  isplitl [Hgv1]; · iexact Hgv1
  iintro %v5 %v7 %v12 %v17 %v21 %v24 %w3 HO
  dsimp only
  rw [wp_bind]
  iapply (part4 m c _ _ _ _ _ _)
  isplitr; · iexact He
  isplitl [HO]; · iexact HO
  isplitl [Ht2 Hgv2]; · isplitl [Ht2] <;> iassumption
  isplitl [Hcb Hpb]; · isplitl [Hcb] <;> iassumption
  isplitl [Hx]; · iexact Hx
  isplitl [Hg]; · iexact Hg
  isplitl [Hc0 Hrt0]; · isplitl [Hc0] <;> iassumption
  isplitl [Hc1 Hrt1]; · isplitl [Hc1] <;> iassumption
  iintro %w4 ⟨HO, Hx, Hzb, Hs0, Hs1, ⟨Hl2, Hl3, Hl4, Hl5, Hl6, Hl7⟩, Hg2, Hgc⟩
  -- copies 2 to 5, the first three blocks
  rw [wp_bind]
  iapply (part5 m c _ _ _ _)
  isplitr; · iexact He
  isplitl [HO]; · iexact HO
  isplitl [Hc2 Hl2 Hg2 Hrt2]
  · unfold ready
    isplitl [Hc2]; · iexact Hc2
    isplitl [Hl2]; · iexact Hl2
    isplitl [Hg2]; · rw [outR_whole c 2 (by decide)]; iexact Hg2
    iexact Hrt2
  isplitl [Hw]; · iexact Hw
  isplitl [Hv]; · iexact Hv
  isplitl [Hgc]; · iexact Hgc
  isplitl [Ho]; · iexact Ho
  isplitl [Hr0]; · iexact Hr0
  iintro ⟨HO, Hs2, Hw, Hv, Hgc, Ho, Hgot⟩
  ihave Hgot := (fwd_zero m c) $$ Hgot
  icases Hgot with ⟨⟨Hrt0, Hz0⟩, ⟨Hg3, Hrt3⟩, Hga, H5⟩
  ihave H5 := (five_even m c _) $$ [Hc5 Hl5 H5]
  · isplitl [Hc5 Hl5]; · isplitl [Hc5] <;> iassumption
    iexact H5
  icases H5 with ⟨H5, H5'⟩
  rw [wp_bind]
  iapply (part6 m c _ _ _ _ _)
  isplitr; · iexact He
  isplitl [HO]; · iexact HO
  isplitl [Hc3 Hl3 Hg3 Hrt3]
  · unfold ready
    isplitl [Hc3]; · iexact Hc3
    isplitl [Hl3]; · iexact Hl3
    isplitl [Hg3] <;> iassumption
  isplitl [H5]; · iexact H5
  isplitl [Hr1]; · iexact Hr1
  iintro %w6 ⟨HO, Hs3, H5, Hgot⟩
  ihave Hgot := (fwd_one m c) $$ Hgot
  icases Hgot with ⟨⟨Hrt1, Hz1⟩, ⟨Hg4, Hrt4⟩, Hgb, H5''⟩
  ihave H5 := (five_odd m c) $$ [H5 H5' H5'']
  · isplitl [H5 H5']; · isplitl [H5] <;> iassumption
    iexact H5''
  icases H5 with ⟨H5, Hsp⟩
  rw [wp_bind]
  iapply (part7 m c _ _ _ _ _ _ _ _)
  isplitr; · iexact He
  isplitl [HO]; · iexact HO
  isplitl [Hc4 Hl4 Hg4 Hrt4]
  · unfold ready
    isplitl [Hc4]; · iexact Hc4
    isplitl [Hl4]; · iexact Hl4
    isplitl [Hg4] <;> iassumption
  isplitl [H5]; · iexact H5
  isplitl [Hr2]; · iexact Hr2
  iintro %w7 %w7' %b7 ⟨HO, Hs4, Hs5, Hgot⟩
  ihave Hgot := (keep_two m c) $$ Hgot
  icases Hgot with ⟨⟨Hrt2, Hz2⟩, Hg2⟩
  dsimp only
  rw [wp_bind]
  iapply (part8 m c _ _ _ _)
  isplitl [Hga]; · iexact Hga
  isplitl [Hgb]; · iexact Hgb
  isplitl [Hv]; · iexact Hv
  isplitl [Ho0]; · iexact Ho0
  iintro %w8 %w8' ⟨Hga, Hgb, Hv, Ho0⟩
  dsimp only
  rw [wp_bind]
  iapply (part9 m c _ _ _ _ _ _)
  isplitl [Hg2]; · iexact Hg2
  isplitl [Hv]; · iexact Hv
  isplitl [Ho1]; · iexact Ho1
  isplitl [Ho2]; · iexact Ho2
  iintro ⟨Hg2, Hv, Ho1, Ho2⟩
  -- copies 6 and 7, the remaining blocks
  rw [wp_bind]
  iapply (part10 m c _ _ _ _ _ _)
  isplitr; · iexact He
  isplitl [HO]; · iexact HO
  isplitl [Hr3]; · iexact Hr3
  isplitl [Hr4]; · iexact Hr4
  isplitl [Hc6 Hl6]; · isplitl [Hc6] <;> iassumption
  isplitl [Hc7 Hl7]; · isplitl [Hc7] <;> iassumption
  iintro %w10 %w10' ⟨HO, Hs6, Hs7, ⟨Hrt3, Hz3, Hg3, Hg3'⟩, Hrt4, Hz4, Hg4, Hg4'⟩
  dsimp only
  rw [wp_bind]
  iapply (part11 m c _ _ _ _ _)
  isplitr; · iexact He
  isplitl [HO]; · iexact HO
  isplitl [Hr5]; · iexact Hr5
  isplitl [Hg3]; · iexact Hg3
  isplitl [Hv]; · iexact Hv
  isplitl [Ho3]; · iexact Ho3
  iintro ⟨HO, ⟨Hg5, Hrt5, Hz5⟩, Hg3, Hv, Ho3⟩
  rw [wp_bind]
  iapply (part12 m c _ _)
  isplitl [Hg4]; · iexact Hg4
  isplitl [Hv]; · iexact Hv
  isplitl [Ho4]; · iexact Ho4
  iintro %w12 ⟨Hg4, Hv, Ho4⟩
  dsimp only
  rw [wp_bind]
  iapply (part13 m c _ _ _)
  isplitl [Hg5]; · iexact Hg5
  isplitl [Hv]; · iexact Hv
  isplitl [Ho5]; · iexact Ho5
  iintro %w13 %w13' ⟨Hg5, Hv, Ho5⟩
  dsimp only
  rw [wp_bind]
  iapply (part14 m c _ _ _ _ _)
  isplitr; · iexact He
  isplitl [HO]; · iexact HO
  isplitl [Hr6]; · iexact Hr6
  isplitl [Hr7]; · iexact Hr7
  isplitl [Hv]; · iexact Hv
  isplitl [Hof]; · iexact Hof
  isplitl [Hs0]; · iexact Hs0
  isplitl [Hs1]; · iexact Hs1
  isplitl [Hs2]; · iexact Hs2
  unfold left
  iintro ⟨HO, ⟨Hgf, Hrtf, Hz6, Hz7⟩, Hv, Hof, ⟨Hb0, Hy0⟩, ⟨Hb1, Hy1⟩, Hb2, Hy2⟩
  rw [wp_bind]
  iapply (part15 m c _ _ _)
  isplitr; · iexact He
  isplitl [HO]; · iexact HO
  isplitl [Ha]; · iexact Ha
  isplitl [Hs3]; · iexact Hs3
  isplitl [Hs4]; · iexact Hs4
  isplitl [Hs5]; · iexact Hs5
  isplitl [Hs6]; · iexact Hs6
  isplitl [Hs7]; · iexact Hs7
  unfold left
  iintro %w15 ⟨HO, Ha, ⟨Hb3, Hy3⟩, ⟨Hb4, Hy4⟩, ⟨Hb5, Hy5⟩, ⟨Hb6, Hy6⟩, Hb7, Hy7⟩
  dsimp only
  ihave Hg := (join_g m c) $$ [Hb0 Hb1 Hb2 Hgc Hb3 Hga Hb4 Hgb Hb5 Hsp Hb6 Hg3' Hg3 Hb7 Hg4' Hg4 Hg2 Hg5 Hgf]
  · isplitl [Hb0 Hb1 Hb2 Hgc]
    · isplitl [Hb0]; · iexact Hb0
      isplitl [Hb1]; · iexact Hb1
      isplitl [Hb2] <;> iassumption
    isplitl [Hb3 Hga]; · isplitl [Hb3] <;> iassumption
    isplitl [Hb4 Hgb]; · isplitl [Hb4] <;> iassumption
    isplitl [Hb5 Hsp]; · isplitl [Hb5] <;> iassumption
    isplitl [Hb6 Hg3' Hg3]
    · isplitl [Hb6]; · iexact Hb6
      isplitl [Hg3'] <;> iassumption
    isplitl [Hb7 Hg4' Hg4]
    · isplitl [Hb7]; · iexact Hb7
      isplitl [Hg4'] <;> iassumption
    isplitl [Hg2]; · iexact Hg2
    isplitl [Hg5] <;> iassumption
  ihave Ho := (join_o m c) $$ [Ho Ho0 Ho1 Ho2 Ho3 Ho4 Ho5 Hof]
  · isplitl [Ho]; · iexact Ho
    isplitl [Ho0]; · iexact Ho0
    isplitl [Ho1]; · iexact Ho1
    isplitl [Ho2]; · iexact Ho2
    isplitl [Ho3]; · iexact Ho3
    isplitl [Ho4]; · iexact Ho4
    isplitl [Ho5] <;> iassumption
  -- the maxima
  rw [wp_bind]
  iapply (part16 m c _ _ _)
  isplitr; · iexact He
  isplitl [HO]; · iexact HO
  isplitl [Ha]; · iexact Ha
  isplitl [Ht]; · iexact Ht
  isplitl [Htx Hox Hpa Hrt0 Hrt1 Hrt2 Hrt3 Hrt4 Hrt5 Hrtf]
  · iapply (ax0_intro (F := F) c)
    isplitl [Htx]; · iexact Htx
    isplitl [Hox]; · iexact Hox
    isplitl [Hpa]; · iexact Hpa
    rw [others7 c fun p => right p c]
    isplitl [Hrt0]; · iexact Hrt0
    isplitl [Hrt1]; · iexact Hrt1
    isplitl [Hrt2]; · iexact Hrt2
    isplitl [Hrt3]; · iexact Hrt3
    isplitl [Hrt4]; · iexact Hrt4
    isplitl [Hrt5] <;> iassumption
  iintro ⟨HO, Ht, Hax⟩
  ihave Hax := (Entails.of_eq (big8 fun p => ax1 m c p)) $$ Hax
  icases Hax with ⟨Hx0, Hx1, Hx2, Hx3, Hx4, Hx5, Hx6, Hx7⟩
  rw [wp_bind]
  iapply (part17 m c _)
  isplitr; · iexact He
  isplitl [HO]; · iexact HO
  isplitl [Ht Hcx Hpq]
  · iapply (ar0_intro m c)
    isplitl [Ht]; · iexact Ht
    isplitl [Hcx] <;> iassumption
  isplitl [Hx0]; · iexact Hx0
  isplitl [Hx1]; · iexact Hx1
  iintro ⟨HO, Hax, Hx0, Hx1⟩
  ihave Hax := (ar1_elim m c) $$ Hax
  icases Hax with ⟨Ht, Hzr⟩
  rw [wp_bind]
  iapply (part18 m c _ _)
  isplitr; · iexact He
  isplitl [HO]; · iexact HO
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Ht]; · iexact Ht
  isplitl [Ho]; · iexact Ho
  iintro ⟨HO, ⟨Hx2, Hx3, Hx4, Hx5, Hx6, Hx7⟩, Ht, Ho⟩
  dsimp only
  ihave Hax := (ax2_elim m c) $$ [Hx0 Hx1 Hx2 Hx3 Hx4 Hx5 Hx6 Hx7]
  · rw [big8 fun p => ax2 m c p]
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6] <;> iassumption
  icases Hax with ⟨Ha, Hzs⟩
  simp only [Prog.lift, Prog.bind_op, Prog.bind_ret, Prog.pure_eq_ret]
  iapply (ld_o c (Y m c)) $$ Ho
  iintro Ho
  iapply (st_out c (g := k0_pay1 (k0_pay23 (MX m)) (k0_pay24 (MX m) (Y m c)))) $$ Ho
  iintro Ho
  iapply ret
  iapply Hk
  isplitl [HO]; · iexact HO
  isplitl [Hzb Hy0 Hy1 Hy2 Hy3 Hy4 Hy5 Hy6 Hy7 Hz0 Hz1 Hz2 Hz3 Hz4 Hz5 Hz6 Hz7 Hia Hzs Hib Hzr Hi0 Hi1]
  · iapply (zeros_intro (F := F) c)
    isplitl [Hzb]; · iexact Hzb
    isplitl [Hy0 Hy1 Hy2 Hy3 Hy4 Hy5 Hy6 Hy7 Hz0 Hz1 Hz2 Hz3 Hz4 Hz5 Hz6 Hz7]
    · isplitl [Hy0 Hy1 Hy2 Hy3 Hy4 Hy5 Hy6 Hy7]
      · isplitl [Hy0]; · iexact Hy0
        isplitl [Hy1]; · iexact Hy1
        isplitl [Hy2]; · iexact Hy2
        isplitl [Hy3]; · iexact Hy3
        isplitl [Hy4]; · iexact Hy4
        isplitl [Hy5]; · iexact Hy5
        isplitl [Hy6] <;> iassumption
      isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6] <;> iassumption
    isplitl [Hia Hzs Hib Hzr]
    · isplitl [Hia Hzs]; · isplitl [Hia] <;> iassumption
      isplitl [Hib] <;> iassumption
    isplitl [Hi0] <;> iassumption
  isplitl [Hg Hv Ha Ht]
  · isplitl [Hg]; · iexists (XG m); iexact Hg
    isplitl [Hv]; · iexists (wv m c); iexact Hv
    isplitl [Ha]; · iexists (AX m c); iexact Ha
    iexists (MX m); iexact Ht
  isplitl [Hx]; · iexact Hx
  isplitl [Hw]; · iexact Hw
  iexact Ho

end Cert.GatherQuant
-- ==== Proof.Deal.lean ====
/- The shares of the protocol dealt out at the launch: the tokens each device pays with, the waits each device is
   credited for, and the records of all cells. -/
module

public import proofs.«01_k».proof.Proof.Device

@[expose] public section

noncomputable section

namespace Cert.GatherQuant

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Tokens, minted for the device that pays with them -/

/-- What a token is for: something due to another device, a copy's leaving, a maximum's leaving. -/
abbrev Mint : Type := Due ⊕ Fin 8 ⊕ Fin 8
/-- The token's cell, round and duty. -/
def tokOf (cx : Dev nD × Mint) : GSem nD τ sig × ℕ × Fin 3 := match cx.2 with
  | .inl o => (dueCell cx.1 o, 0, dueDuty o)
  | .inr (.inl e) => (dCell cx.1 (sndK cx.1 e), 0, 0)
  | .inr (.inr p) => (dCell cx.1 (axsK p), 0, 0)

/-- Whom a copy semaphore's token is for. -/
def mintOf (c : Dev nD) : Role → Dev nD × Mint
  | .snd e => (c, .inr (.inl e)) | .rcv e => (src c e, .inl (.inr (.inl e))) | _ => (c, .inr (.inl 0))
/-- Whom a token is for, and what for. -/
def untok (x : GSem nD τ sig × ℕ × Fin 3) : Dev nD × Mint := match x.1.2 with
  | .reg _ => (nb x.1.1.1 x.2.2, .inl (.inl (back x.2.2)))
  | .dma k =>
    if k.val < 21 then mintOf x.1.1.1 (roleD x.1.1.1 k)
    else if k.val < 29 then (x.1.1.1, .inr (.inr (Fin.ofNat 8 (k.val - 21))))
    else (Fin.ofNat 8 (k.val - 29), .inl (.inr (.inr x.1.1.1)))

theorem untok_due : ∀ (c : Dev nD) (o : Due), untok (dueCell c o, 0, dueDuty o) = (c, .inl o) := by decide +kernel
theorem untok_snd : ∀ (c : Dev nD) (e : Fin 8), untok (dCell c (sndK c e), 0, 0) = (c, .inr (.inl e)) := by decide +kernel
theorem untok_axs : ∀ c p : Dev nD, untok (dCell c (axsK p), 0, 0) = (c, .inr (.inr p)) := by decide +kernel
theorem untok_tok (cx : Dev nD × Mint) : untok (tokOf cx) = cx := by
  obtain ⟨c, o | e | p⟩ := cx
  · exact untok_due c o
  · exact untok_snd c e
  · exact untok_axs c p
theorem tokOf_injective : Function.Injective tokOf := Function.LeftInverse.injective untok_tok

/-- All cells and all tokens. -/
theorem kcell_injective : Function.Injective kcell := by
  rintro ⟨c, k⟩ ⟨c', k'⟩ h
  have h1 : c = c' := congrArg (fun g : GSem nD τ sig => g.1.1) h
  subst h1
  have h2 : csem k = csem k' := congrArg Prod.snd h
  cases k with
  | none => cases k' with
    | none => rfl
    | some b => exact absurd h2 (fun h => by cases h)
  | some a => cases k' with
    | none => exact absurd h2 (fun h => by cases h)
    | some b =>
      have h3 : dk a = dk b := SemLoc.dma.inj h2
      have h4 : 3 + a.val = 3 + b.val := congrArg Fin.val h3
      have h5 : a = b := Fin.ext (by omega)
      rw [h5]
def allCells : Finset (GSem nD τ sig) := Finset.univ.map ⟨kcell, kcell_injective⟩
def allToks : Finset (GSem nD τ sig × ℕ × Fin 3) := Finset.univ.map ⟨tokOf, tokOf_injective⟩

/-- A device's minted tokens. -/
def minted (c : Dev nD) : sProp 𝕄 := bigSep Finset.univ fun x : Mint => dutyTok ER (tokOf (c, x)).1 (tokOf (c, x)).2.1 (tokOf (c, x)).2.2

theorem to_others (c : Dev nD) (Φ : Fin 8 → sProp 𝕄) : bigSep Finset.univ Φ ⊢ bigSep (others c) Φ := bigSep_subset (Finset.subset_univ _)

theorem minted_split (c : Dev nD) : minted (F := F) c
    = iprop(((bigSep Finset.univ fun d : Fin 3 => tok c (.inl d)) ∗ (bigSep Finset.univ fun e : Fin 8 => tok c (.inr (.inl e)))
        ∗ (bigSep Finset.univ fun p : Fin 8 => tok c (.inr (.inr p))))
      ∗ (bigSep Finset.univ fun e : Fin 8 => ownTok c (sndK c e)) ∗ (bigSep Finset.univ fun p : Fin 8 => ownTok c (axsK p))) := by
  unfold minted
  rw [bigSep_univ_sum, bigSep_univ_sum, bigSep_univ_sum, bigSep_univ_sum]; rfl
theorem minted_tokens (c : Dev nD) : minted (F := F) c ⊢ tokens (F := F) c := by
  rw [minted_split]; unfold tokens
  iintro ⟨⟨Hb, Hc, Hm⟩, Hs, Ha⟩
  isplitl [Hb]; · iexact Hb
  isplitl [Hc]; · iexact Hc
  isplitl [Hm]; · iapply (to_others c fun p => tok (F := F) c (.inr (.inr p))); iexact Hm
  isplitl [Hs]; · iexact Hs
  iapply (to_others c fun p => ownTok (F := F) c (axsK p)); iexact Ha

/-! ## Credits -/

/-- All that a device has to pay. -/
def dues (c : Dev nD) : Finset Due := Finset.univ.disjSum (Finset.univ.disjSum (others c))
/-- What a device owes at the start. -/
def O₀ (c : Dev nD) : CellTallies nD τ sig Unit := owed c Finset.univ Finset.univ (others c)

theorem O₀_sum (c : Dev nD) : O₀ c = ∑ o ∈ dues c, tal c o := by
  unfold O₀ owed OB OC OM dues
  rw [Finset.sum_disjSum, Finset.sum_disjSum, add_assoc]
theorem O₀_at (c : Dev nD) (g : GSem nD τ sig) : O₀ c g () = ∑ o ∈ dues c, if g = dueCell c o then dueAmt o else 0 := by
  rw [O₀_sum, Finset.sum_apply, Finsupp.finset_sum_apply]
  refine Finset.sum_congr rfl fun o _ => ?_
  unfold tal
  rw [tallyAt_apply]
  simp

/-- Exactly one due is paid to a transfer cell. -/
theorem due_unique {c d : Dev nD} {x : Fin 8 ⊕ Fin 8} {o : Due} (h : dueCell c (.inr x) = dueCell d o) : d = c ∧ o = .inr x := by
  have hd : dueDuty (.inr x) = dueDuty o := by
    cases o with
    | inl e =>
      exact absurd (congrArg Prod.snd h) (by cases x <;> exact fun h => by cases h)
    | inr y => rfl
  have := tokOf_injective (a₁ := (c, .inl (.inr x))) (a₂ := (d, .inl o)) (by
    show (dueCell c (.inr x), 0, dueDuty (.inr x)) = (dueCell d o, 0, dueDuty o)
    rw [h, hd])
  exact ⟨(congrArg Prod.fst this).symm, Sum.inl.inj (congrArg Prod.snd this).symm⟩

theorem launch_dma (c : Dev nD) (x : Fin 8 ⊕ Fin 8) (hx : .inr x ∈ dues c) :
    tallyOn (dueCell c (.inr x)) (launchCredit (Pipeline.owing O₀) 0 (dueCell c (.inr x)))
      = (tallyAt (dueCell c (.inr x)) () (dueAmt (.inr x)) : CellTallies nD τ sig Unit) := by
  unfold tallyAt; refine congrArg _ (Finsupp.ext fun u => ?_); cases u
  rw [Pipeline.launchCredit_owing, Finsupp.single_eq_same,
    Finset.sum_eq_single c (fun d _ hd => (O₀_at d _).trans (Finset.sum_eq_zero fun o _ => if_neg fun h => hd (due_unique h).1))
      (fun h => absurd (Finset.mem_univ _) h),
    O₀_at, Finset.sum_eq_single (.inr x) (fun o _ ho => if_neg fun h => ho (due_unique h).2) (fun h => absurd hx h), if_pos rfl]

theorem bar_count : ∀ c : Dev nD, (∑ d : Dev nD, ∑ e : Fin 3, if c = nb d e then 1 else 0) = 3 := by decide +kernel

theorem O₀_bar (d c : Dev nD) : O₀ d (barCell c) () = ∑ e : Fin 3, if c = nb d e then 1 else 0 := by
  rw [O₀_at]; unfold dues
  rw [Finset.sum_disjSum, Finset.sum_eq_zero (s := Finset.univ.disjSum (others d)) (fun x _ => if_neg fun h =>
    absurd (congrArg Prod.snd h) (by cases x <;> exact fun h => by cases h)), Nat.add_zero]
  refine Finset.sum_congr rfl fun e _ => ?_
  by_cases h : c = nb d e
  · rw [if_pos h, if_pos (by rw [h]; rfl)]; rfl
  · rw [if_neg h, if_neg (fun h' => h (congrArg (fun g : GSem nD τ sig => g.1.1) h'))]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_bar d c, bar_count]

theorem launch_rcv (c : Dev nD) (e : Fin 8) :
    tallyOn (dCell c (rcvK c e)) (launchCredit (Pipeline.owing O₀) 0 (dCell c (rcvK c e)))
      = (tallyAt (dCell c (rcvK c e)) () (NE e) : CellTallies nD τ sig Unit) := by
  have h := launch_dma (src c e) (.inl e) (by unfold dues; simp)
  have hc : dueCell (src c e) (.inr (.inl e)) = dCell c (rcvK c e) := by
    show dCell (tgt (src c e) e) (rcvK (tgt (src c e) e) e) = _
    rw [tgt_src]
  rw [hc] at h; exact h
theorem launch_axr (c p : Dev nD) (hp : p ∈ others c) :
    tallyOn (dCell c (axrK p)) (launchCredit (Pipeline.owing O₀) 0 (dCell c (axrK p)))
      = (tallyAt (dCell c (axrK p)) () NA : CellTallies nD τ sig Unit) :=
  launch_dma p (.inr c) (by
    unfold dues
    have : c ∈ others p := Finset.mem_erase.mpr ⟨fun h => (Finset.mem_erase.mp hp).1 h.symm, Finset.mem_univ _⟩
    simp [this])

/-- The semaphores a device waits on for the others. -/
def waitS (c : Dev nD) : Fin 8 ⊕ Fin 8 → SemLoc sig
  | .inl e => .dma (rcvK c e) | .inr p => .dma (axrK p)
theorem waitK_inj : ∀ (c : Dev nD), Function.Injective (Sum.elim (rcvK c) axrK : Fin 8 ⊕ Fin 8 → Fin 37) := by decide +kernel
theorem waitS_inj (c : Dev nD) : Function.Injective (waitS c) := fun x y h => waitK_inj c (by
  rcases x with e | p <;> rcases y with e' | p' <;> exact SemLoc.dma.inj h)

theorem creds (c : Dev nD) : (Pipeline.launchCred O₀ c : sProp 𝕄) ⊢ credits (F := F) c := by
  have hs : Finset.univ.map ⟨waitS c, waitS_inj c⟩ ⊆ (Finset.univ : Finset (SemLoc sig)).erase (.reg barS) := by
    intro s hs
    obtain ⟨x, _, rfl⟩ := Finset.mem_map.mp hs
    exact Finset.mem_erase.mpr ⟨(fun h => by rcases x with e | p <;> cases h), Finset.mem_univ _⟩
  unfold Pipeline.launchCred credits
  rw [bigSep_univ_at _ (SemLoc.reg barS), launch_bar]
  refine sep_mono_right ((bigSep_subset hs).trans ?_)
  rw [bigSep_map, bigSep_univ_sum]
  have h1 : (bigSep Finset.univ fun e : Fin 8 =>
        cred (tallyOn (dCell c (rcvK c e)) (launchCredit (Pipeline.owing O₀) 0 (dCell c (rcvK c e)))) : sProp 𝕄)
      = bigSep Finset.univ fun e : Fin 8 => credK c (rcvK c e) (NE e) := bigSep_congr fun e _ => congrArg cred (launch_rcv c e)
  have h2 : (bigSep (others c) fun p : Fin 8 =>
        cred (tallyOn (dCell c (axrK p)) (launchCredit (Pipeline.owing O₀) 0 (dCell c (axrK p)))) : sProp 𝕄)
      = bigSep (others c) fun p : Fin 8 => credK c (axrK p) NA := bigSep_congr fun p hp => congrArg cred (launch_axr c p hp)
  rw [← h1, ← h2]
  exact sep_mono_right (to_others c _)

/-! ## Records -/

theorem bigSep_opt {α : Type} [Fintype α] (Φ : Option α → sProp 𝕄) :
    bigSep Finset.univ Φ = iprop(Φ none ∗ bigSep Finset.univ fun a : α => Φ (some a)) := by
  rw [bigSep_univ_equiv ((Equiv.sumComm PUnit.{1} α).trans (Equiv.optionEquivSumPUnit.{0} α).symm), bigSep_univ_sum,
    bigSep_univ_eq_bigSepL [PUnit.unit] (by decide) (by decide)]
  rfl

/-- The device's own transfer semaphores, as the launch lists them. -/
abbrev osem (k : Fin 34) : SemLoc sig := .dma (dk k)

/-- What a device is given before the cells are set up. -/
def G (c : Dev nD) : sProp 𝕄 :=
  iprop((bigSep Finset.univ fun k : Option (Fin 34) => roundState ER (Rd m) (kcell (c, k)) 0)
    ∗ (bigSep Finset.univ fun k : Option (Fin 34) => reached ER (kcell (c, k)) 0)
    ∗ (bigSep Finset.univ fun k : Option (Fin 34) => atPos ER (kcell (c, k)) 0 (∅ : Finset (Fin 3)) 0) ∗ minted (F := F) c)
/-- What it has once they are. -/
def G' (c : Dev nD) : sProp 𝕄 :=
  iprop((bigSep Finset.univ fun ck : Dev nD × Option (Fin 34) => cellOK m (kcell ck)) ∗ places (F := F) c ∗ tokens (F := F) c)

theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : Option (Fin 34) => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted (F := F) c := by
    unfold allToks minted; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 (∅ : Finset (Fin 3)) 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

theorem zeros_eq (c : Dev nD) : zeros (F := F) c
    = iprop(unscopedSems0 c ∗ Pipeline.ownSems0 (Ix := Unit) (Name := ℕ) (U := UU) (Lvl := ℕ) (Val := Elt F) (τ := τ) osem c) := by
  unfold zeros unscopedSems0
  rw [bigSep_eq_bigSepL_of_eq [SemLoc.reg barS] (by decide) (by decide)]; rfl
theorem zeros_cells (c : Dev nD) : zeros (F := F) c = bigSep Finset.univ fun k : Option (Fin 34) => semVal (kcell (c, k)) 0 := by
  rw [bigSep_opt]; rfl
theorem places_cells (c : Dev nD) :
    (bigSep Finset.univ fun k : Option (Fin 34) => atPos ER (kcell (c, k)) 0 (∅ : Finset (Fin 3)) 0) = places (F := F) c := by
  rw [bigSep_opt]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option (Fin 34) => cellOK m (kcell (c, k)))
          ∗ (places (F := F) c ∗ tokens (F := F) c)) := by
  unfold G
  rw [places_cells]
  iintro ⟨Hos, Hus, Hst, Hr, Hat, Htok⟩
  ihave Hz := (Entails.of_eq (zeros_eq c).symm) $$ [Hos Hus]
  · isplitl [Hus] <;> iassumption
  ihave Hz := (Entails.of_eq (zeros_cells c)) $$ Hz
  imod (show iprop((bigSep Finset.univ fun k : Option (Fin 34) => semVal (kcell (c, k)) 0)
        ∗ bigSep Finset.univ fun k : Option (Fin 34) => roundState ER (Rd m) (kcell (c, k)) 0)
      ⊢ (|={Set.univ}=> bigSep Finset.univ fun k : Option (Fin 34) => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hz Hst] with Hi
  · isplitl [Hz] <;> iassumption
  imodintro
  isplitl [Hi Hr]
  · unfold cellOK
    rw [bigSep_sep']
    isplitl [Hi] <;> iassumption
  isplitl [Hat]; · iexact Hat
  iapply (minted_tokens c); iexact Htok

theorem with_persistent {R : sProp 𝕄} [BI.Persistent R] {Φ Ψ : Dev nD → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun k : Option (Fin 34) => cellOK m (kcell (c, k)))
          ∗ (places (F := F) c ∗ tokens (F := F) c)) : sProp 𝕄)
      ⊢ bigSep Finset.univ (G' m) := by
  rw [bigSep_sep', ← bigSep_univ_prod (fun ck : Dev nD × Option (Fin 34) => cellOK m (kcell ck))]
  exact with_persistent fun c => BI.Entails.refl _

/-- All devices' cells are set up at once. -/
theorem glob : (bigSep Finset.univ fun c : Dev nD =>
      iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.GatherQuant
-- ==== Proof.Launch.lean ====
/- The run of the whole program on the eight devices, for any float values: it ends, with every device's result array at
   `outAt`, its arguments unchanged and every semaphore at zero. -/
module

public import proofs.«01_k».proof.Proof.Deal
public import Idealize.ShloMosaic.Lib.Pipeline.CollectiveSegs

@[expose] public section

noncomputable section

namespace Cert.GatherQuant

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at the start: any contents, every semaphore at zero. -/
def s₀ : MemSt nD τ sig (Elt F) := ⟨m, fun _ => 0, ρ⟩

/-! ## The body as the pipeline runs it -/

/-- What a device has before the body, and after. -/
def start (c : Dev nD) : sProp 𝕄 := iprop(env m ∗ credits (F := F) c ∗ tokens (F := F) c ∗ places (F := F) c)
def Φ₀ (c : Dev nD) : sProp 𝕄 := iprop(start m c ∗ working (F := F) c)
def Φ₁ (c : Dev nD) : sProp 𝕄 := iprop(zeros (F := F) c ∗ working (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m c
    | ⟨1, _⟩ => wst m c
    | ⟨2, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ (F := F) c ∗ (dats m ρ 0 c).owesAt () t0_0.succ ∗ stg c cc0_stg0_0 (xst m c) ∗ stg c cc0_stg1_0 (wst m c) ∗ stg c cc0_stg2_0 (outAt m c))

theorem working_eq (c : Dev nD) : (Pipeline.scopedRest cfg0.spec c : sProp 𝕄) = working (F := F) c := (scopedRest0_eq c).trans rfl
theorem before_x (c : Dev nD) (d) : (dats m ρ 0 c).before (0 : Fin 3) t0_0 d = xst m c := by
  unfold Dat.before; rw [if_pos (fetch0_0 t0_0)]; rfl
theorem before_w (c : Dev nD) (d) : (dats m ρ 0 c).before (1 : Fin 3) t0_0 d = wst m c := by
  unfold Dat.before; rw [if_pos (fetch0_1 t0_0)]; rfl

/-- Nothing is owed at the end. -/
theorem owed_none (c : Dev nD) : owed c ∅ ∅ ∅ = 0 := by unfold owed OB OC OM; simp

attribute [local irreducible] cc0_body xst wst outAt working credits tokens places zeros env

theorem body_at (c : Dev nD) : bodyPre m ρ c ⊢ WP c (atBufs (cc0_body (F := F))) (fun _ => bodyPost m ρ c) := by
  unfold bodyPre bodyPost Φ₀ start Dat.owesAt Pipeline.owesWithin
  iintro ⟨⟨⟨#He, Hc, Ht, Hp⟩, Hw⟩, ⟨%W, %hW, HO⟩, ⟨%d0, %g0, %h0, Hx⟩, ⟨%d1, %g1, %h1, Hy⟩, ⟨%d2, %g2, %h2, Ho⟩⟩
  rw [before_x] at h0; rw [before_w] at h1
  subst h0 h1
  iapply (body_run m c fun _ => bodyPost m ρ c)
  isplitr; · iexact He
  isplitl [HO]; · unfold Ow; iexists W; rw [show (dats m ρ 0 c).owed t0_0.castSucc = owed c Finset.univ Finset.univ (others c) from rfl]; iexact HO
  isplitl [Hc]; · iexact Hc
  isplitl [Ht]; · iexact Ht
  isplitl [Hp]; · iexact Hp
  isplitl [Hw]; · iexact Hw
  isplitl [Hx]; · unfold xP; iexact Hx
  isplitl [Hy]; · unfold wP; iexact Hy
  isplitl [Ho]; · iexists g2; unfold oP; iexact Ho
  unfold Ow xP wP oP bodyPost Φ₁ Dat.owesAt Pipeline.owesWithin
  iintro ⟨⟨%W', HO⟩, Hz, Hw, Hx, Hy, Ho⟩
  ihave HO' := (Entails.of_eq (congrArg (fun O => (owes (c : Thread nD τ) O W' : sProp 𝕄)) (owed_none c))) $$ HO
  isplitl [Hz Hw]
  · isplitl [Hz] <;> iassumption
  isplitl [HO']
  · iexists W'
    isplitr; · ipureintro; exact fun _ _ => Or.inl trivial
    iexact HO'
  isplitl [Hx]; · iexists _; isplitr; · ipureintro; rfl
                  iexact Hx
  isplitl [Hy]; · iexists _; isplitr; · ipureintro; rfl
                  iexact Hy
  iexists _; isplitr; · ipureintro; rfl
  iexact Ho

set_option maxRecDepth 4000 in
/-- The body obligation of the pipeline on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact body_at m ρ c

/-! ## The launch -/

theorem ownSemFacts : Pipeline.OwnSemFacts cfg0.spec osem := by decide
theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start env
  iintro ⟨-, Hlev, Hcr, -, HI, Hp, Ht⟩
  ihave Hc := (creds (F := F) c) $$ Hcr
  imodintro
  isplitl
  · isplitl [HI Hlev]
    · isplitl [HI] <;> iassumption
    isplitl [Hc]; · iexact Hc
    isplitl [Ht] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, working_eq]
  unfold Φ₀
  iintro ⟨Hs, -, Hw⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, working_eq]
  unfold Φ₁
  rw [zeros_eq]
  iintro ⟨⟨Hu, Ho⟩, Hw⟩
  isplitl [Hu]; · iexact Hu
  isplitl [Ho] <;> iassumption

/-- The pipeline's own semaphores come first of all. -/
theorem mayWait_stage (c : Dev nD) (q : DmaSem sig) (hq : roleD c q = .idle) (O : CellTallies nD τ sig Unit) (hO : O = O₀ c ∨ O = 0) :
    (levAts L lv : sProp 𝕄) ⊢ MayWait (c : Thread nD τ) (.dma q) () O := by
  have h0 : levR (roleG (dCell c q)) = 0 := by rw [roleG_dma, hq]; rfl
  rcases hO with rfl | rfl
  · exact mayWait c (.dma q) Finset.univ Finset.univ (others c) (others_not c) (fun _ _ => by show levR (roleG (dCell c q)) < 1; omega)
      (fun e _ => by show levR (roleG (dCell c q)) < levE e; rw [h0]; revert e; decide) (fun _ _ => by show levR (roleG (dCell c q)) < 5; omega)
  · rw [MayWait_zero]; iintro -; iempintro

theorem stage_idle : ∀ (c : Dev nD) (q : Fin 37), q.val < 3 → roleD c q = .idle := by decide +kernel
theorem stage_sem : ∀ (w : Fin cfg0.W) (s : Fin (cfg0.win w).nbuf), ((cfg0.win w).sem s : Fin 37).val < 3 := by decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_idle c _ (stage_sem w s)) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_arg0 (c : Dev nD) : finalA m ρ c (0 : Fin 3) = m ((c : Thread nD τ).loc main_arg0) := (dats (F := F) m ρ 0 c).arrAt_in (0 : Fin 3) rfl _
theorem finalA_arg1 (c : Dev nD) : finalA m ρ c (1 : Fin 3) = m ((c : Thread nD τ).loc main_arg1) := (dats (F := F) m ρ 0 c).arrAt_in (1 : Fin 3) rfl _

/-- The run keeps the arguments and leaves every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c 0).trans (finalA_arg0 m ρ c), (h.1 c 1).trans (finalA_arg1 m ρ c)⟩, h.2⟩) (run_main m ρ)

end Cert.GatherQuant
-- ==== Proof.Result.lean ====
/- What the result array holds at the end of the run: the pipeline writes the staged result to it once, whole. -/
module

public import proofs.«01_k».proof.Proof.Launch

@[expose] public section

noncomputable section

namespace Cert.GatherQuant

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The block of the result's window is the array itself. -/
theorem cut_out (t : Fin cfg0.N) (f : S4096x256.Idx → Elt F .f32) :
    (cfg0.win 2).cut (grid0.coords t) f = (win0_2.blk t).view.read (Elt F) f := by
  funext j
  rw [View.read_apply]
  show f (win0_2.xinj (grid0.coords t) j) = f _
  congr 1
  funext a
  apply Fin.ext
  match a with
  | ⟨0, _⟩ => show (j 0).val = 0 * 4096 + 1 * (j 0).val; omega
  | ⟨1, _⟩ => show (j 1).val = 0 * 256 + 1 * (j 1).val; omega

/-- What is written back is the whole of the staged result. -/
theorem flushed_out (c : Dev nD) (t : Fin cfg0.N) :
    (dats m ρ 0 c).flushed 2 t = (win0_2.blk t).view.read (Elt F) (outAt m c) := by
  show (cfg0.win 2).cut (grid0.coords t) ((dats m ρ 0 c).after 2 t) = _
  rw [show (dats m ρ 0 c).after 2 t = outAt m c from by dsimp only [dats]]
  exact cut_out t (outAt m c)

/-- The block written back is the whole array. -/
theorem cover_out (i : S4096x256.Idx) :
    ∃ t : Fin cfg0.N, (cfg0.win 2).flush t = true ∧ i ∈ ((cfg0.win 2).blk t).view.set := by
  refine ⟨t0_0, flush0_2 _, ?_⟩
  show i ∈ ((View.whole main_v1).slice (win0_2.rect t0_0)).set
  rw [View.set_slice_whole, Rect.mem_set_unit]
  intro a
  have h0 : (i 0 : Nat) < 4096 := (i 0).isLt
  have h1 : (i 1 : Nat) < 256 := (i 1).isLt
  match a with
  | ⟨0, _⟩ =>
    show win0_2.index t0_0 0 * win0_2.size 0 ≤ (i 0 : Nat)
      ∧ (i 0 : Nat) < win0_2.index t0_0 0 * win0_2.size 0 + win0_2.xsize (grid0.coords t0_0) 0
    rw [show win0_2.index t0_0 0 * win0_2.size 0 = 0 from by decide +kernel,
      show win0_2.xsize (grid0.coords t0_0) 0 = 4096 from by decide +kernel]; omega
  | ⟨1, _⟩ =>
    show win0_2.index t0_0 1 * win0_2.size 1 ≤ (i 1 : Nat)
      ∧ (i 1 : Nat) < win0_2.index t0_0 1 * win0_2.size 1 + win0_2.xsize (grid0.coords t0_0) 1
    rw [show win0_2.index t0_0 1 * win0_2.size 1 = 0 from by decide +kernel,
      show win0_2.xsize (grid0.coords t0_0) 1 = 256 from by decide +kernel]; omega

theorem finalA_out (c : Dev nD) : finalA m ρ c (2 : Fin 3) = outAt m c :=
  (dats m ρ 0 c).arrAt_eq_of_cover 2 (outAt m c) (fun t _ => flushed_out m ρ c t) cover_out

/-- The run of the eight devices: each result is the device's, the arguments are unchanged. -/
theorem run_value : θ_run defs (onTc (τ := τ) (main (F := F))) ⟨m, fun _ => 0, ρ⟩ (fun r => ∀ c : Dev nD,
    r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun r h c => ⟨(h.1 c (2 : Fin 3)).trans (finalA_out m ρ c),
    (h.1 c (0 : Fin 3)).trans (finalA_arg0 m ρ c), (h.1 c (1 : Fin 3)).trans (finalA_arg1 m ρ c)⟩) (run_main m ρ)

end Cert.GatherQuant

end
-- ==== Proof.RefRun.lean ====
/- The reference's result as one function of its arguments: the product, its greatest absolute value, the scale, and the
   product quantised by that scale. -/
module

public import proofs.«01_k».proof.Proof.Gen.ReferenceIdeal.Value

@[expose] public section

noncomputable section

namespace Cert.RefValue

open Idealize.ShloMosaic Idealize.ShloMosaic.TcCoe Idealize.SL.Sem Idealize.ShloMosaic.Tactic
open Idealize.ShloMosaic.Pipeline (Dat)
open Cert.ReferenceIdeal Cert.ReferenceIdeal.Gen

variable {F : FTy → Type} [FloatOps F]
variable (m : (ℓ : Loc nD τ sig) → Buf (Elt F) ℓ) (ρ : Dev nD → PrngReg)

/-- The product of the arguments. -/
def prod (x : FVec F S4096x4096 .bf16) (w : FVec F S4096x2048 .bf16) : FVec F S4096x2048 .f32 :=
  Host.dotGeneral dot_S4096x4096_S4096x2048_S4096x2048_1_0_0_1_n_n none x w
/-- Its greatest absolute value. -/
def amax (y : FVec F S4096x2048 .f32) : FVec F S_ .f32 :=
  Host.reduce FloatOps.maximumf (Host.absf y) (constant S_ .f32 0xFF800000#32) reducesTo_S4096x2048_S_d0_1 h_S_
/-- The scale, as an array of one element. -/
def scale (y : FVec F S4096x2048 .f32) : FVec F S1x1 .f32 :=
  shapeCast S1x1 (Host.divf (amax y) (constant S_ .f32 0x43E00000#32)) shapeCasts_S_S1x1
/-- The result. -/
def refOut (x : FVec F S4096x4096 .bf16) (w : FVec F S4096x2048 .bf16) : FVec F S4096x2048 .f32 :=
  Cert.ReferenceIdeal.Value.E2 (prod x w) (scale (prod x w))

theorem V_v0 (c : Dev nD) : V m c main_v0 = prod (m ((c : Thread nD τ).loc main_arg0)) (m ((c : Thread nD τ).loc main_arg1)) := by
  unfold_abbrev_sides
  after_results
  rfl

theorem V_v4 (c : Dev nD) :
    V m c main_v4 = scale (prod (m ((c : Thread nD τ).loc main_arg0)) (m ((c : Thread nD τ).loc main_arg1))) := by
  unfold_abbrev_sides
  after_results
  rfl

/-- What is read of a window over a whole array is the array. -/
theorem iblk0 (c : Dev nD) (t : Fin cfg0.N) : (iblk m c 0 t : Vec F S4096x2048 .f32) = V m c main_v0 := by
  unfold iblk
  funext j
  rw [View.read_apply]
  show V m c main_v0 _ = _
  congr 1
  funext a
  apply Fin.ext
  match a with
  | ⟨0, _⟩ => show 0 * 4096 + 1 * (j 0).val = (j 0).val; omega
  | ⟨1, _⟩ => show 0 * 2048 + 1 * (j 1).val = (j 1).val; omega
theorem iblk1 (c : Dev nD) (t : Fin cfg0.N) : (iblk m c 1 t : Vec F S1x1 .f32) = V m c main_v4 := by
  unfold iblk
  funext j
  rw [View.read_apply]
  show V m c main_v4 _ = _
  congr 1
  funext a
  apply Fin.ext
  match a with
  | ⟨0, _⟩ => show 0 * 1 + 1 * (j 0).val = (j 0).val; omega
  | ⟨1, _⟩ => show 0 * 1 + 1 * (j 1).val = (j 1).val; omega

/-- The block of the result's window is the array itself. -/
theorem cut_out (t : Fin cfg0.N) (f : S4096x2048.Idx → Elt F .f32) :
    (cfg0.win 2).cut (grid0.coords t) f = (win0_2.blk t).view.read (Elt F) f := by
  funext j
  rw [View.read_apply]
  show f (win0_2.xinj (grid0.coords t) j) = f _
  congr 1
  funext a
  apply Fin.ext
  match a with
  | ⟨0, _⟩ => show (j 0).val = 0 * 4096 + 1 * (j 0).val; omega
  | ⟨1, _⟩ => show (j 1).val = 0 * 2048 + 1 * (j 1).val; omega

theorem hz : (![0, 0] : Fin 2 → Nat) = fun _ => 0 := funext fun a => by fin_cases a <;> rfl

/-- The result, of the launch memory. -/
def outM (c : Dev nD) : Vec F S4096x2048 .f32 :=
  refOut (m ((c : Thread nD τ).loc main_arg0)) (m ((c : Thread nD τ).loc main_arg1))

theorem out_eq (c : Dev nD) (t : Fin cfg0.N) : out0_2 (iblk m c 0 t) (iblk m c 1 t) = outM m c := by
  unfold out0_2
  funext y
  rw [Cert.ReferenceIdeal.Value.canon2_eq, View.ld_unit_zero hz, View.ld_unit_zero hz, iblk0, iblk1, V_v0, V_v4]
  rfl

theorem cover_out (i : S4096x2048.Idx) :
    ∃ t : Fin cfg0.N, (cfg0.win 2).flush t = true ∧ i ∈ ((cfg0.win 2).blk t).view.set := by
  have hN : cfg0.N = 1 := N_0
  have ht : 0 < cfg0.N := by omega
  refine ⟨⟨0, ht⟩, flush0_2 _, ?_⟩
  show i ∈ ((View.whole main_v5).slice (win0_2.rect ⟨0, ht⟩)).set
  rw [View.set_slice_whole, Rect.mem_set_unit]
  intro a
  have h0 : (i 0 : Nat) < 4096 := (i 0).isLt
  have h1 : (i 1 : Nat) < 2048 := (i 1).isLt
  match a with
  | ⟨0, _⟩ => show 0 * 4096 ≤ (i 0 : Nat) ∧ (i 0 : Nat) < 0 * 4096 + 4096; omega
  | ⟨1, _⟩ => show 0 * 2048 ≤ (i 1 : Nat) ∧ (i 1 : Nat) < 0 * 2048 + 2048; omega

theorem final_out (c : Dev nD) : (dats m 0 c).arrAt 2 cfg0.N = outM m c :=
  (dats m 0 c).arrAt_eq_of_cover 2 (outM m c)
    (fun t _ => by
      rw [Cert.ReferenceIdeal.Value.flushed2, out_eq]
      exact cut_out t (outM m c)) cover_out

/-- The reference's run: its result is `outM`, the arguments are unchanged. -/
theorem run : θ_run defs (onTc (τ := τ) (main (F := F))) ⟨m, fun _ => 0, ρ⟩ (fun r => ∀ c : Dev nD,
    r.2.mem ((c : Thread nD τ).loc main_v5) = outM m c
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨(h c).1.trans (final_out m c), (h c).2⟩)
    (Cert.ReferenceIdeal.Value.run_blocks m ρ)

end Cert.RefValue

end
-- ==== Proof.ScaleMath.lean ====
/- Why the order of the divisions does not matter: multiplying by the reciprocal scale and dividing by the scale give the
   same quantised value, over all extended reals and for every scale, infinite or zero ones included. -/
module

public import Idealize.ShloMosaic.PureOps.Ideal
public import Idealize.ShloMosaic.PureOps.Ideal.Laws
public import Idealize.ShloMosaic.Lib.IdealHost

@[expose] public section

noncomputable section

namespace Cert.QuantMath

open Idealize.ShloMosaic

/-- The greatest value of the narrow type, 448. -/
def K : EReal := ((448 : ℝ) : EReal)

theorem bits_K : Ideal.ofBits .f32 0x43E00000#32 = K := by
  unfold K
  simp [Ideal.ofBits, Ideal.ieee, -EReal.coe_mul]; norm_num
theorem bits_negK : Ideal.ofBits .f32 0xC3E00000#32 = -K := by
  unfold K
  simp [Ideal.ofBits, Ideal.ieee, -EReal.coe_mul]; norm_num
theorem bits_bot : Ideal.ofBits .f32 0xFF800000#32 = ⊥ := by
  simp [Ideal.ofBits, Ideal.ieee]

/-- The clip to the narrow type's range. -/
def clip (z : EReal) : EReal := min K (max (-K) z)

/-- Quantised by the scale `g / 448` and scaled back: dividing by the scale, or multiplying by `448 / g`. -/
theorem quant_eq (y g : EReal) :
    clip (y * Ideal.div K g) * Ideal.div g K = clip (Ideal.div y (Ideal.div g K)) * Ideal.div g K := by
  have hK : (448 : ℝ) ≠ 0 := by simp
  have hd : ∀ z, Ideal.div z K = z * ((1 / 448 : ℝ) : EReal) := fun z => Ideal.div_coe hK z
  have hpos : (0 : ℝ) < 1 / 448 := by positivity
  induction g with
  | bot =>
    have hs : Ideal.div ⊥ K = ⊥ := by rw [hd]; exact EReal.bot_mul_coe_of_pos hpos
    have h1 : Ideal.div K ⊥ = 0 := by simp [Ideal.div]
    have h2 : Ideal.div y ⊥ = 0 := by simp [Ideal.div]
    rw [hs, h1, h2, mul_zero]
  | top =>
    have hs : Ideal.div ⊤ K = ⊤ := by rw [hd]; exact EReal.top_mul_coe_of_pos hpos
    have h1 : Ideal.div K ⊤ = 0 := by simp [Ideal.div]
    have h2 : Ideal.div y ⊤ = 0 := by simp [Ideal.div]
    rw [hs, h1, h2, mul_zero]
  | coe r =>
    by_cases hr : r = 0
    · have hs : Ideal.div ((r : ℝ) : EReal) K = 0 := by rw [hd, hr]; simp
      rw [hs, mul_zero, mul_zero]
    · have hs : Ideal.div ((r : ℝ) : EReal) K = ((r * (1 / 448) : ℝ) : EReal) := by rw [hd, EReal.coe_mul]
      have h0 : r * (1 / 448) ≠ 0 := mul_ne_zero hr hpos.ne'
      have h1 : Ideal.div K ((r : ℝ) : EReal) = ((1 / (r * (1 / 448)) : ℝ) : EReal) := by
        rw [Ideal.div_coe hr]; unfold K; rw [← EReal.coe_mul]
        congr 1
        field_simp
      rw [hs, h1, Ideal.div_coe h0]

end Cert.QuantMath

end
-- ==== Proof.MaxMath.lean ====
/- The greatest entry of an array, read by its upper bounds: a bound of the maximum is a bound of every entry. The maximum
   over two axes, as the kernel and the reference take it, and the maximum of absolute values. -/
module

public import Idealize.ShloMosaic.PureOps.Ideal
public import Idealize.ShloMosaic.PureOps.Ideal.Laws
public import Idealize.ShloMosaic.Lib.IdealHost
public import Idealize.ShloMosaic.Lib.Pointwise.Reduce
public import Idealize.ShloMosaic.Lib.Pipeline.Value
public import proofs.«01_k».proof.Proof.ScaleMath

@[expose] public section

noncomputable section

namespace Cert.QuantMath

open Idealize.ShloMosaic

/-- The absolute value, as a maximum. -/
def mag (z : EReal) : EReal := max z (-z)

theorem mag_nonneg (z : EReal) : 0 ≤ mag z := by
  unfold mag
  rcases le_total 0 z with h | h
  · exact le_max_of_le_left h
  · exact le_max_of_le_right (EReal.neg_nonneg.mpr h)

/-- The maximum over both axes of an array, taken with a leading axis of one element. -/
theorem tabMax_le {a b : ℕ} (f : FVec Ideal ⟨2, ![a, b]⟩ .f32)
    (h1 : (⟨2, ![a, b]⟩ : Shape).ShapeCasts ⟨3, ![1, a, b]⟩) (h2 : (⟨3, ![1, a, b]⟩ : Shape).Reduces [1, 2] ⟨1, ![1]⟩)
    (hφ : FKind.Formats .f32) (hacc : (0xFF800000#32 : BitVec 32) = FKind.maximumf.neutral .f32 hφ)
    (j : (⟨1, ![1]⟩ : Shape).Idx) (d : EReal) :
    (multiReduction .maximumf [1, 2] ⟨1, ![1]⟩ (shapeCast ⟨3, ![1, a, b]⟩ f h1) 0xFF800000#32 h2 hφ hacc j : EReal) ≤ d
      ↔ ∀ (p : Fin a) (q : Fin b), (f (ix2 p q) : EReal) ≤ d := by
  rw [multiReduction_maximumf_eq_fold, Shape.Reduces.fold_fiber_r3_a12]
  refine Iff.trans (Finset.fold_max_le (s := Finset.univ) (b := Ideal.ofBits .f32 0xFF800000#32) (c := d)) ?_
  rw [bits_bot]
  constructor
  · intro h p q
    have := h.2 (p, q) (Finset.mem_univ _)
    rw [shapeCast_addUnit_apply (n := 2) ![a, b]] at this
    convert this using 2
    congr 1
    funext x
    match x with
    | ⟨0, _⟩ => rfl
    | ⟨1, _⟩ => rfl
  · intro h
    refine ⟨bot_le, fun k _ => ?_⟩
    rw [shapeCast_addUnit_apply (n := 2) ![a, b]]
    convert h k.1 k.2 using 2
    congr 1
    funext x
    match x with
    | ⟨0, _⟩ => rfl
    | ⟨1, _⟩ => rfl

/-- The same maximum, as one number. -/
theorem tabMax1_le {a b : ℕ} (f : FVec Ideal ⟨2, ![a, b]⟩ .f32)
    (h1 : (⟨2, ![a, b]⟩ : Shape).ShapeCasts ⟨3, ![1, a, b]⟩) (h2 : (⟨3, ![1, a, b]⟩ : Shape).Reduces [1, 2] ⟨1, ![1]⟩)
    (hφ : FKind.Formats .f32) (hacc : (0xFF800000#32 : BitVec 32) = FKind.maximumf.neutral .f32 hφ)
    (h3 : (⟨1, ![1]⟩ : Shape).ShapeCasts ⟨3, ![1, 1, 1]⟩)
    (h4 : ∀ x, (![0, 0, 0] : Fin 3 → ℕ) x < (⟨3, ![1, 1, 1]⟩ : Shape).size x) (d : EReal) :
    @LE.le EReal _ (extractAt (s := ⟨3, ![1, 1, 1]⟩) ![0, 0, 0] (shapeCast ⟨3, ![1, 1, 1]⟩ (multiReduction .maximumf [1, 2] ⟨1, ![1]⟩
      (shapeCast ⟨3, ![1, a, b]⟩ f h1) 0xFF800000#32 h2 hφ hacc) h3) h4) d
      ↔ ∀ (p : Fin a) (q : Fin b), (f (ix2 p q) : EReal) ≤ d := by
  unfold extractAt
  conv => lhs; unfold shapeCast
  exact tabMax_le f h1 h2 hφ hacc _ d

/-- The maximum over both axes of an array, taken on the host. -/
theorem hostMax_le {a b : ℕ} {u t : Shape} (f : FVec Ideal ⟨2, ![a, b]⟩ .f32) (h : (⟨2, ![a, b]⟩ : Shape).ReducesTo [0, 1] t)
    (hu : 0 < u.numel) (j : t.Idx) (d : EReal) :
    @LE.le EReal _ (Host.reduce (FloatOps.maximumf (F := Ideal) (φ := .f32)) f (constant (F := Ideal) u .f32 0xFF800000#32) h hu j) d
      ↔ ∀ (p : Fin a) (q : Fin b), (f (ix2 p q) : EReal) ≤ d := by
  rw [Host.reduce_eq_fold, Shape.ReducesTo.fold_fiber_r2_a01]
  refine Iff.trans (Finset.fold_max_le (s := Finset.univ) (b := Ideal.ofBits .f32 0xFF800000#32) (c := d)) ?_
  rw [bits_bot]
  exact ⟨fun h p q => h.2 (p, q) (Finset.mem_univ _), fun h => ⟨bot_le, fun k _ => h k.1 k.2⟩⟩

end Cert.QuantMath

end
-- ==== Proof.KernelMax.lean ====
/- The kernel's maximum, read by its upper bounds: a device's running maximum bounds the absolute values of its eight
   products, in whichever order the device met the blocks, and the maximum of the table bounds those of every device. -/
module

public import proofs.«01_k».proof.Proof.Contents
public import proofs.«01_k».proof.Proof.MaxMath

@[expose] public section

noncomputable section

namespace Cert.GatherQuant

open Idealize.ShloMosaic Idealize.ShloMosaic.TcCoe
open Cert.KernelIdeal Cert.KernelIdeal.Gen
open Cert.QuantMath

variable (m : (ℓ : Loc nD τ sig) → Buf (Elt Ideal) ℓ)

/-- `d` bounds the absolute values of the product of `x` and `w`. -/
def Bounds (x : Vec Ideal S512x4096 .bf16) (w : Vec Ideal S4096x256 .bf16) (d : EReal) : Prop :=
  ∀ (p : Fin 512) (q : Fin 256), mag (k0_pay4 x w (ix2 p q)) ≤ d

attribute [local irreducible] k0_pay4

/-- The maximum of a product's absolute values. -/
def tmax {F : FTy → Type} [FloatOps F] (y : FVec F S512x256 .f32) : F .f32 :=
  extractAt ![0, 0, 0] (shapeCast S1x1x1 (multiReduction .maximumf [1, 2] S1
    (shapeCast S1x512x256 (absf y) shapeCasts_S512x256_S1x512x256) 0xFF800000#32 reduces_S1x512x256_S1 (.inl rfl) rfl)
    shapeCasts_S1_S1x1x1) inpos_S1x1x1_p0_0_0

section

variable {F : FTy → Type} [FloatOps F] (x x' : Vec F S512x4096 .bf16) (w w' : Vec F S4096x256 .bf16) (a : F .f32)

theorem pay6_eq : k0_pay6 x w = k0_pay4 x w := by unfold k0_pay4 k0_pay6; rfl
theorem pay8_eq : k0_pay8 x w = k0_pay4 x w := by unfold k0_pay4 k0_pay8; rfl
theorem pay9_eq : k0_pay9 x w = k0_pay4 x w := by unfold k0_pay4 k0_pay9; rfl
theorem pay11_eq : k0_pay11 x w = k0_pay4 x w := by unfold k0_pay4 k0_pay11; rfl
theorem pay13_eq : k0_pay13 x w = k0_pay4 x w := by unfold k0_pay4 k0_pay13; rfl
theorem pay15_eq : k0_pay15 x w = k0_pay4 x w := by unfold k0_pay4 k0_pay15; rfl
theorem pay17_eq : k0_pay17 x w = k0_pay4 x w := by unfold k0_pay4 k0_pay17; rfl

theorem pay5_eq : k0_pay5 x w = Scalar.maximumf (Scalar.ofBits .f32 0x00000000#32) (tmax (k0_pay4 x w)) := by
  unfold k0_pay5 tmax; rfl
theorem pay7_eq : k0_pay7 a x w = Scalar.maximumf a (tmax (k0_pay4 x w)) := by
  unfold k0_pay7 tmax; rw [pay6_eq]
theorem pay10_eq : k0_pay10 a x w x' w'
    = Scalar.maximumf (Scalar.maximumf a (tmax (k0_pay4 x w))) (tmax (k0_pay4 x' w')) := by
  unfold k0_pay10 tmax; rw [pay8_eq, pay9_eq]
theorem pay14_eq : k0_pay14 a (k0_pay12 x w) x' w'
    = Scalar.maximumf (Scalar.maximumf a (tmax (k0_pay4 x w))) (tmax (k0_pay4 x' w')) := by
  unfold k0_pay14 k0_pay12 tmax; rw [pay11_eq, pay13_eq]
theorem pay16_eq : k0_pay16 a x w = Scalar.maximumf a (tmax (k0_pay4 x w)) := by
  unfold k0_pay16 tmax; rw [pay15_eq]
theorem pay18_eq : k0_pay18 a x w = Scalar.maximumf a (tmax (k0_pay4 x w)) := by
  unfold k0_pay18 tmax; rw [pay17_eq]

end

theorem tmax_le (x : Vec Ideal S512x4096 .bf16) (w : Vec Ideal S4096x256 .bf16) (d : EReal) :
    @LE.le EReal _ (tmax (k0_pay4 x w)) d ↔ Bounds x w d := by
  unfold tmax Bounds
  generalize k0_pay4 x w = y
  exact tabMax1_le (absf y) shapeCasts_S512x256_S1x512x256 reduces_S1x512x256_S1 (.inl rfl) rfl
    shapeCasts_S1_S1x1x1 inpos_S1x1x1_p0_0_0 d

/-- Every device is the device itself, one of the six blocks that come whole, or the far one. -/
theorem all_dev : ∀ c s : Dev nD, s = c ∨ s = org c 0 ∨ s = org c 1 ∨ s = org c 2 ∨ s = org c 3 ∨ s = org c 4
    ∨ s = org c 5 ∨ s = far c := by decide +kernel

theorem smax_le (a b d : EReal) :
    @LE.le EReal _ (Scalar.maximumf (F := Ideal) (φ := .f32) a b) d ↔ a ≤ d ∧ b ≤ d := max_le_iff

attribute [local irreducible] Bounds xblk wv tmax am0 am1 am3 am5 am6 am7

/-- The running maximum after the eighth product. -/
theorem am7_le (c : Dev nD) (d : EReal) :
    @LE.le EReal _ (am7 m c) d ↔ 0 ≤ d ∧ ∀ s : Dev nD, Bounds (xblk m s) (wv m c) d := by
  have h0 : @LE.le EReal _ (am0 m c) d ↔ 0 ≤ d ∧ Bounds (xblk m c) (wv m c) d := by
    unfold am0; rw [pay5_eq, smax_le, tmax_le]
    rw [show Scalar.ofBits (F := Ideal) .f32 0x00000000#32 = (0 : EReal) from Ideal.ofBits_zero_f32]
  unfold am7; rw [pay18_eq, smax_le, tmax_le]
  unfold am6; rw [pay16_eq, smax_le, tmax_le]
  unfold am5; rw [pay14_eq, smax_le, smax_le, tmax_le, tmax_le]
  unfold am3; rw [pay10_eq, smax_le, smax_le, tmax_le, tmax_le]
  unfold am1; rw [pay7_eq, smax_le, tmax_le, h0]
  constructor
  · rintro ⟨⟨⟨⟨⟨⟨⟨⟨h, h0⟩, h1⟩, h2⟩, h3⟩, h4⟩, h5⟩, h6⟩, h7⟩
    refine ⟨h, fun s => ?_⟩
    rcases all_dev c s with e | e | e | e | e | e | e | e <;> rw [e] <;> assumption
  · rintro ⟨h, hs⟩
    exact ⟨⟨⟨⟨⟨⟨⟨⟨h, hs c⟩, hs (org c 0)⟩, hs (org c 1)⟩, hs (org c 2)⟩, hs (org c 3)⟩, hs (org c 4)⟩, hs (org c 5)⟩, hs (far c)⟩

/-- The maximum over all devices. -/
def gmax : EReal := k0_pay22 (MX m)

theorem row_apply {F : FTy → Type} [FloatOps F] (a : F .f32) (i : S1x128.Idx) : k0_pay20 (k0_pay19 a) i = a := by
  unfold k0_pay20 k0_pay19 shapeCast
  rfl

theorem AX_apply (c : Dev nD) (i : S1x128.Idx) : AX m c i = am7 m c := by
  unfold AX
  exact row_apply (am7 m c) i

theorem gmax_le (d : EReal) : gmax m ≤ d ↔ 0 ≤ d ∧ ∀ c s : Dev nD, Bounds (xblk m s) (wv m c) d := by
  have h : gmax m ≤ d ↔ ∀ (p : Fin 8) (q : Fin 128), @LE.le EReal _ (MX m (ix2 p q)) d := by
    unfold gmax k0_pay22
    generalize MX m = y
    exact tabMax1_le y shapeCasts_S8x128_S1x8x128 reduces_S1x8x128_S1 (.inl rfl) rfl shapeCasts_S1_S1x1x1
      inpos_S1x1x1_p0_0_0 d
  rw [h]
  have e : ∀ (p : Fin 8) (q : Fin 128), MX m (ix2 p q) = am7 m p := fun p q => AX_apply m p _
  simp only [e, am7_le]
  exact ⟨fun h => ⟨(h 0 0).1, fun c => (h c 0).2⟩, fun h p q => ⟨h.1, h.2 p⟩⟩

end Cert.GatherQuant

end
-- ==== Proof.ProductMath.lean ====
/- The products as sums. An entry of a device's product of two blocks is the entry of the whole product at the block's
   place: block `s` of the rows, block `c` of the columns. -/
module

public import proofs.«01_k».proof.Proof.Contents
public import proofs.«01_k».proof.Proof.RefRun
public import Idealize.ShloMosaic.Lib.MatmulPlain
public import Idealize.ShloMosaic.Lib.StackMember
public import Idealize.ShloMosaic.Lib.Layout

@[expose] public section

noncomputable section

namespace Cert.GatherQuant

open Idealize.ShloMosaic Idealize.ShloMosaic.TcCoe
open Cert.KernelIdeal Cert.KernelIdeal.Gen

/-- A row of the whole array, by its block and the row in the block. -/
def wrow (s : Dev nD) (p : Fin 512) : Fin 4096 :=
  ⟨s.val * 512 + p.val, by have : s.val < 8 := s.isLt; omega⟩
/-- A column of the whole array, by its block and the column in the block. -/
def wcol (c : Dev nD) (q : Fin 256) : Fin 2048 :=
  ⟨c.val * 256 + q.val, by have : c.val < 8 := c.isLt; omega⟩

theorem wrow_split (P : Fin 4096) : wrow (blkOf P) (rowOf P) = P :=
  Fin.ext (by show P.val / 512 * 512 + P.val % 512 = P.val; omega)
theorem wcol_surj (Q : Fin 2048) : ∃ (c : Dev nD) (q : Fin 256), wcol c q = Q :=
  ⟨⟨Q.val / 256, by show _ < 8; omega⟩, ⟨Q.val % 256, by omega⟩,
    Fin.ext (by show Q.val / 256 * 256 + Q.val % 256 = Q.val; omega)⟩

section

variable {F : FTy → Type} [FloatOps F] (m : (ℓ : Loc nD τ sig) → Buf (Elt F) ℓ)

/-- The staged blocks are the arguments. -/
theorem xst_eq (c : Dev nD) : xst m c = m ((c : Thread nD τ).loc main_arg0) := by
  unfold xst iblk
  funext j
  rw [View.read_apply]
  show m ((c : Thread nD τ).loc main_arg0) _ = _
  congr 1
  funext a
  apply Fin.ext
  match a with
  | ⟨0, _⟩ => show 0 * 512 + 1 * (j 0).val = (j 0).val; omega
  | ⟨1, _⟩ => show 0 * 4096 + 1 * (j 1).val = (j 1).val; omega
theorem wst_eq (c : Dev nD) : wst m c = m ((c : Thread nD τ).loc main_arg1) := by
  unfold wst iblk
  funext j
  rw [View.read_apply]
  show m ((c : Thread nD τ).loc main_arg1) _ = _
  congr 1
  funext a
  apply Fin.ext
  match a with
  | ⟨0, _⟩ => show 0 * 4096 + 1 * (j 0).val = (j 0).val; omega
  | ⟨1, _⟩ => show 0 * 256 + 1 * (j 1).val = (j 1).val; omega

theorem pay2_eq (x : Vec F S512x4096 .bf16) : k0_pay2 x = x := by
  unfold k0_pay2
  exact (shapeCast_self _ _).trans (shapeCast_self _ _)
theorem pay3_eq (w : Vec F S4096x256 .bf16) : k0_pay3 w = w := by
  unfold k0_pay3
  exact (shapeCast_self _ _).trans (shapeCast_self _ _)

theorem xblk_eq (c : Dev nD) : xblk m c = m ((c : Thread nD τ).loc main_arg0) := by
  unfold xblk; rw [pay2_eq, xst_eq]
theorem wv_eq (c : Dev nD) : wv m c = m ((c : Thread nD τ).loc main_arg1) := by
  unfold wv; rw [pay3_eq, wst_eq]

end

/-- The two spellings of a pair of coordinates. -/
theorem ix2_eq {a b : ℕ} (p : Fin a) (q : Fin b) : ValueIdx.ix2 p q = ix2 p q := by
  funext x
  match x with
  | ⟨0, _⟩ => rfl
  | ⟨1, _⟩ => rfl

/-- A product of blocks at an index. -/
theorem pay4_apply (x : Vec Ideal S512x4096 .bf16) (w : Vec Ideal S4096x256 .bf16) (p : Fin 512) (q : Fin 256) :
    k0_pay4 x w (ix2 p q) = ∑ k : Fin 4096, (x (ix2 p k) * w (ix2 k q) : EReal) := by
  unfold k0_pay4
  rw [show dot_S512x4096_S4096x256_S512x256_1_0_0_1_n_n = DotDims.plain 512 4096 256 from rfl]
  rw [← ix2_eq p q]
  refine (Ideal.matmul_plain_apply none x w _ p q).trans ?_
  simp only [ix2_eq]
  rw [show (constant (F := Ideal) S512x256 .f32 0x00000000#32 (ix2 p q)) = (0 : EReal) from Ideal.ofBits_zero_f32, zero_add]

/-- The whole product at an index. -/
theorem prod_apply (x : FVec Ideal ⟨2, ![4096, 4096]⟩ .bf16) (w : FVec Ideal ⟨2, ![4096, 2048]⟩ .bf16) (P : Fin 4096) (Q : Fin 2048) :
    Cert.RefValue.prod x w (ix2 P Q) = ∑ k : Fin 4096, (x (ix2 P k) * w (ix2 k Q) : EReal) := by
  unfold Cert.RefValue.prod
  rw [show Cert.ReferenceIdeal.dot_S4096x4096_S4096x2048_S4096x2048_1_0_0_1_n_n = DotDims.plain 4096 4096 2048 from rfl]
  rw [← ix2_eq P Q]
  refine (StackMember.dotGeneral_plain_apply none x w P Q).trans ?_
  simp only [ix2_eq]

variable (m : (ℓ : Loc nD τ sig) → Buf (Elt Ideal) ℓ)
variable (x : FVec Ideal ⟨2, ![4096, 4096]⟩ .bf16) (w : FVec Ideal ⟨2, ![4096, 2048]⟩ .bf16)

/-- The devices hold the blocks of `x` and `w`. -/
def Holds : Prop := ∀ c : Dev nD,
  m ((c : Thread nD τ).loc main_arg0) = Layout.block ⟨2, ![512, 4096]⟩ ⟨2, ![4096, 4096]⟩ 0 8 c x
  ∧ m ((c : Thread nD τ).loc main_arg1) = Layout.block ⟨2, ![4096, 256]⟩ ⟨2, ![4096, 2048]⟩ 1 8 c w

variable {m x w}

theorem xblk_apply (h : Holds m x w) (s : Dev nD) (p : Fin 512) (k : Fin 4096) :
    xblk m s (ix2 p k) = x (ix2 (wrow s p) k) := by
  rw [xblk_eq, (h s).1, Layout.block_apply]
  congr 1
  funext a
  apply Fin.ext
  match a with
  | ⟨0, _⟩ => exact (Layout.idx_rows_val _ s (ix2 p k)).1
  | ⟨1, _⟩ => exact (Layout.idx_rows_val _ s (ix2 p k)).2
theorem wv_apply (h : Holds m x w) (c : Dev nD) (k : Fin 4096) (q : Fin 256) :
    wv m c (ix2 k q) = w (ix2 k (wcol c q)) := by
  rw [wv_eq, (h c).2, Layout.block_apply]
  congr 1
  funext a
  apply Fin.ext
  match a with
  | ⟨0, _⟩ => exact (Layout.idx_cols_val _ c (ix2 k q)).1
  | ⟨1, _⟩ => exact (Layout.idx_cols_val _ c (ix2 k q)).2

/-- An entry of a product of blocks is an entry of the whole product. -/
theorem block_prod (h : Holds m x w) (c s : Dev nD) (p : Fin 512) (q : Fin 256) :
    k0_pay4 (xblk m s) (wv m c) (ix2 p q) = Cert.RefValue.prod x w (ix2 (wrow s p) (wcol c q)) := by
  rw [pay4_apply, prod_apply]
  exact Finset.sum_congr rfl fun k _ => by rw [xblk_apply h, wv_apply h]

end Cert.GatherQuant

end
-- ==== Proof.Agree.lean ====
/- The kernel and the reference agree: the same greatest absolute value, and each device's result the device's block of
   columns of the reference's. -/
module

public import proofs.«01_k».proof.Proof.KernelMax
public import proofs.«01_k».proof.Proof.ProductMath

@[expose] public section

noncomputable section

namespace Cert.GatherQuant

open Idealize.ShloMosaic Idealize.ShloMosaic.TcCoe
open Cert.KernelIdeal Cert.KernelIdeal.Gen
open Cert.QuantMath
open Cert.RefValue (prod amax scale refOut)

/-- The kernel's result at an index, by the maximum and the product. -/
theorem quant_apply (t : Vec Ideal S8x128 .f32) (y : Vec Ideal S4096x256 .f32) (j : S4096x256.Idx) :
    k0_pay1 (k0_pay23 t) (k0_pay24 t y) j
      = (clip ((y j : EReal) * Ideal.div K (k0_pay22 t)) * Ideal.div (k0_pay22 t) K : EReal) := by
  unfold k0_pay1 k0_pay23 k0_pay24
  generalize k0_pay22 t = g
  rw [shapeCast_self]
  unfold clip
  rw [← bits_negK, ← bits_K]
  rfl

/-- The reference's result at an index, by the maximum and the product. -/
theorem refOut_apply (x : FVec Ideal ⟨2, ![4096, 4096]⟩ .bf16) (w : FVec Ideal ⟨2, ![4096, 2048]⟩ .bf16)
    (P : Fin 4096) (Q : Fin 2048) (i : Cert.ReferenceIdeal.S_.Idx) :
    refOut x w (ix2 P Q) = (clip (Ideal.div (prod x w (ix2 P Q)) (Ideal.div (amax (prod x w) i) K))
      * Ideal.div (amax (prod x w) i) K : EReal) := by
  have hs : ∀ k, scale (prod x w) k = (Ideal.div (amax (prod x w) i) K : EReal) := fun k => by
    unfold scale shapeCast
    rw [← bits_K]
    generalize amax (prod x w) = a
    show Ideal.div (a _) _ = Ideal.div (a _) _
    congr 2
    exact funext fun x => x.elim0
  unfold refOut
  show FloatOps.mulf (FloatOps.extf .f32 _ (FloatOps.truncf .fp8e4m3 _ (FloatOps.minimumf (Scalar.ofBits .f32 0x43E00000#32)
    (FloatOps.maximumf (Scalar.ofBits .f32 0xC3E00000#32) (FloatOps.divf (prod x w _) (scale (prod x w) _)))))) (scale (prod x w) _) = _
  rw [hs]
  unfold clip
  rw [← bits_negK, ← bits_K]
  generalize prod x w = y
  have e : Cert.ReferenceIdeal.Value.ix2_0 (ix2 P Q) = ix2 P Q := by
    funext a
    match a with
    | ⟨0, _⟩ => rfl
    | ⟨1, _⟩ => rfl
  rw [e]
  rfl

variable {m : (ℓ : Loc nD τ sig) → Buf (Elt Ideal) ℓ}
variable {x : FVec Ideal ⟨2, ![4096, 4096]⟩ .bf16} {w : FVec Ideal ⟨2, ![4096, 2048]⟩ .bf16}

theorem amax_le (y : FVec Ideal ⟨2, ![4096, 2048]⟩ .f32) (i : Cert.ReferenceIdeal.S_.Idx) (d : EReal) :
    @LE.le EReal _ (amax y i) d ↔ ∀ (P : Fin 4096) (Q : Fin 2048), mag (y (ix2 P Q)) ≤ d := by
  unfold amax
  exact hostMax_le (Host.absf y) _ _ i d

/-- The two maxima are one. -/
theorem gmax_eq (h : Holds m x w) (i : Cert.ReferenceIdeal.S_.Idx) : gmax m = amax (prod x w) i := by
  refine eq_of_forall_ge_iff (α := EReal) fun d => ?_
  rw [gmax_le, amax_le]
  constructor
  · rintro ⟨-, hb⟩ P Q
    obtain ⟨c, q, rfl⟩ := wcol_surj Q
    rw [← wrow_split P, ← block_prod h]
    exact hb c (blkOf P) (rowOf P) q
  · intro hb
    refine ⟨(mag_nonneg _).trans (hb 0 0), fun c s p q => ?_⟩
    rw [block_prod h]
    exact hb _ _

/-- The product on a device is its block of columns of the whole product. -/
theorem Y_apply (h : Holds m x w) (c : Dev nD) (P : Fin 4096) (q : Fin 256) :
    Y m c (ix2 P q) = prod x w (ix2 P (wcol c q)) := by
  show k0_pay4 (xblk m (blkOf P)) (wv m c) (ix2 (rowOf P) q) = _
  rw [block_prod h, wrow_split]

/-- A device's result is its block of columns of the reference's. -/
theorem outAt_eq (h : Holds m x w) (c : Dev nD) :
    outAt m c = Layout.block ⟨2, ![4096, 256]⟩ ⟨2, ![4096, 2048]⟩ 1 8 c (refOut x w) := by
  funext j
  obtain ⟨P, q, rfl⟩ : ∃ (P : Fin 4096) (q : Fin 256), j = ix2 P q := ⟨j 0, j 1, by
    funext a
    match a with
    | ⟨0, _⟩ => rfl
    | ⟨1, _⟩ => rfl⟩
  have hi : (Layout.Tiles.idx (S := ⟨2, ![4096, 256]⟩) (T := ⟨2, ![4096, 2048]⟩) (a := 1) (k := 8) (by decide) c (ix2 P q))
      = ix2 P (wcol c q) := by
    funext a
    apply Fin.ext
    match a with
    | ⟨0, _⟩ => exact (Layout.idx_cols_val _ c (ix2 P q)).1
    | ⟨1, _⟩ => exact (Layout.idx_cols_val _ c (ix2 P q)).2
  rw [Layout.block_apply, hi, refOut_apply x w P (wcol c q) (fun a => a.elim0), ← quant_eq, ← gmax_eq h, ← Y_apply h]
  unfold outAt
  exact quant_apply (MX m) (Y m c) (ix2 P q)

end Cert.GatherQuant

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Result
public import proofs.«01_k».proof.Proof.RefRun
public import proofs.«01_k».proof.Proof.Agree
public import Idealize.ShloMosaic.Adequacy
public import Idealize.ShloMosaic.Init

@[expose] public section

noncomputable section

namespace Cert.Proof

open Idealize.ShloMosaic Idealize.SL.Sem

/-- The two programs of the kernel are the same text. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))
theorem defs_eq : Cert.Kernel.defs (F := Bits) = Cert.KernelIdeal.defs (F := Bits) := by
  unfold Cert.Kernel.defs Cert.KernelIdeal.defs
  rw [bodies_eq]; rfl
/-- The kernel's run over the words. -/
theorem frame_kernel : Cert.quiescent_Kernel := fun m ρ _ => by
  rw [defs_eq]
  exact Cert.GatherQuant.run_frame (F := Bits) m ρ
/-- The kernel's run over the extended reals. -/
theorem frame_ideal : Cert.quiescent_KernelIdeal := fun m ρ _ => Cert.GatherQuant.run_frame (F := Ideal) m ρ
/-- The reference's run over the extended reals. -/
theorem frame_reference : Cert.quiescent_ReferenceIdeal := fun m ρ _ => Cert.ReferenceIdeal.Gen.frame m ρ

/-- Each device's result is its block of columns of the reference's. -/
theorem algebraic : Cert.algebraic_KernelIdeal_ReferenceIdeal := fun m g m' g' _ h =>
  ⟨Cert.RefValue.outM m' 0,
    (θ_run Cert.KernelIdeal.defs _ _).mono
      (fun r hr c => ⟨(hr c).1.trans (Cert.GatherQuant.outAt_eq (m := m) h c), (hr c).2⟩) (Cert.GatherQuant.run_value m g),
    (θ_run Cert.ReferenceIdeal.defs _ _).mono (fun r hr => hr 0) (Cert.RefValue.run m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
